-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2048x2048 : Shape := ⟨2, ![2048, 2048]⟩
abbrev S896x768 : Shape := ⟨2, ![896, 768]⟩
abbrev S14 : Shape := ⟨1, ![14]⟩
abbrev S896x640 : Shape := ⟨2, ![896, 640]⟩
abbrev S_ : Shape := ⟨0, ![]⟩
abbrev S256x256 : Shape := ⟨2, ![256, 256]⟩
abbrev S256x768 : Shape := ⟨2, ![256, 768]⟩
abbrev S1 : Shape := ⟨1, ![1]⟩
abbrev S128x768 : Shape := ⟨2, ![128, 768]⟩
abbrev S256x640 : Shape := ⟨2, ![256, 640]⟩
abbrev S128x640 : Shape := ⟨2, ![128, 640]⟩

abbrev nBuf : Space → Nat
  | .hbm => 3
  | .vmem => 9
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S2048x2048, .bf16⟩
  | .local _ .vmem, ⟨0, _⟩ => ⟨S2048x256, .bf16⟩
  | .local _ .vmem, ⟨1, _⟩ => ⟨S256x2048, .bf16⟩
  | .local _ .vmem, ⟨2, _⟩ => ⟨S2048x2048, .bf16⟩
  | .local _ .vmem, ⟨3, _⟩ => ⟨S896x768, .bf16⟩
  | .local _ .vmem, ⟨4, _⟩ => ⟨S896x768, .bf16⟩
  | .local _ .vmem, ⟨5, _⟩ => ⟨S896x640, .bf16⟩
  | .local _ .vmem, ⟨6, _⟩ => ⟨S896x640, .bf16⟩
  | .local _ .vmem, ⟨7, _⟩ => ⟨S896x640, .bf16⟩
  | .local _ .vmem, ⟨8, _⟩ => ⟨S896x640, .bf16⟩
  | _, _ => ⟨S2048x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 171 → Bool
  | ⟨i, _⟩ => dmaSemScopedAt i

abbrev sig : RefSig :=
  (ofTc nBuf bufTy 1 171 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch3 : Ref sig .tc := ⟨.vmem, 4, rfl⟩
abbrev cc0_scratch6 : Ref sig .tc := ⟨.vmem, 5, rfl⟩
abbrev cc0_scratch9 : Ref sig .tc := ⟨.vmem, 6, rfl⟩
abbrev cc0_scratch12 : Ref sig .tc := ⟨.vmem, 7, rfl⟩
abbrev cc0_scratch15 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c6_i32
  let c256_i32 : BitVec 32 := 256#32
  let v14 : BitVec 32 := Scalar.muli v13 c256_i32
  let v15 : Index := Scalar.indexCast v14
  let c0 : Index := 0#32
  ![v15.toNat, 0]
def k0_off2 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.xori v2 c6_i32
  let c256_i32_12 : BitVec 32 := 256#32
  let v22 : BitVec 32 := Scalar.muli v13 c256_i32_12
  let v23 : Index := Scalar.indexCast v22
  let c0_13 : Index := 0#32
  ![v23.toNat, 0]
def k0_off3 (d0 : Dev nD) (c6_i32_14 : BitVec 32) (c0_i32_16 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c6_i32_14
  let c256_i32_15 : BitVec 32 := 256#32
  let v26 : BitVec 32 := Scalar.muli v25 c256_i32_15
  let v27 : BitVec 32 := Scalar.addi v26 c0_i32_16
  let c0_i32_24 : BitVec 32 := 0#32
  ![v27.toNat, 0]
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_17 : BitVec 32 := 1#32
  let v28 : BitVec 32 := Scalar.xori v2 c1_i32_17
  let c1_i32_20 : BitVec 32 := 1#32
  let v29 : BitVec 32 := Scalar.muli v28 c1_i32_20
  let v30 : BitVec 32 := Scalar.addi c0_i32_21 v29
  v30.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_27 : BitVec 32 := 1#32
  let v40 : BitVec 32 := Scalar.xori v2 c1_i32_27
  let c1_i32_30 : BitVec 32 := 1#32
  let v41 : BitVec 32 := Scalar.muli v40 c1_i32_30
  let v42 : BitVec 32 := Scalar.addi c0_i32_31 v41
  v42.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_45 : BitVec 32 := 1#32
  let v64 : BitVec 32 := Scalar.xori v2 c1_i32_45
  let c1_i32_48 : BitVec 32 := 1#32
  let v65 : BitVec 32 := Scalar.muli v64 c1_i32_48
  let v66 : BitVec 32 := Scalar.addi c0_i32_49 v65
  v66.toNat
def k0_dev7 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_56 : BitVec 32 := 1#32
  let v76 : BitVec 32 := Scalar.xori v2 c1_i32_56
  let c1_i32_59 : BitVec 32 := 1#32
  let v77 : BitVec 32 := Scalar.muli v76 c1_i32_59
  let v78 : BitVec 32 := Scalar.addi c0_i32_60 v77
  v78.toNat
def k0_dev8 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_75 : BitVec 32 := 1#32
  let v100 : BitVec 32 := Scalar.xori v2 c1_i32_75
  let c1_i32_78 : BitVec 32 := 1#32
  let v101 : BitVec 32 := Scalar.muli v100 c1_i32_78
  let v102 : BitVec 32 := Scalar.addi c0_i32_79 v101
  v102.toNat
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_86 : BitVec 32 := 1#32
  let v112 : BitVec 32 := Scalar.xori v2 c1_i32_86
  let c1_i32_89 : BitVec 32 := 1#32
  let v113 : BitVec 32 := Scalar.muli v112 c1_i32_89
  let v114 : BitVec 32 := Scalar.addi c0_i32_90 v113
  v114.toNat
def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_104 : BitVec 32 := 1#32
  let v136 : BitVec 32 := Scalar.xori v2 c1_i32_104
  let c1_i32_107 : BitVec 32 := 1#32
  let v137 : BitVec 32 := Scalar.muli v136 c1_i32_107
  let v138 : BitVec 32 := Scalar.addi c0_i32_108 v137
  v138.toNat
def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v148 : BitVec 32 := Scalar.xori v2 c1_i32_114
  let c1_i32_117 : BitVec 32 := 1#32
  let v149 : BitVec 32 := Scalar.muli v148 c1_i32_117
  let v150 : BitVec 32 := Scalar.addi c0_i32_118 v149
  v150.toNat
def k0_off4 (d0 : Dev nD) (c6_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v157 : BitVec 32 := Scalar.xori v2 c6_i32_122
  let c256_i32_127 : BitVec 32 := 256#32
  let v166 : BitVec 32 := Scalar.muli v157 c256_i32_127
  let v167 : Index := Scalar.indexCast v166
  let c768_128 : Index := 768#32
  ![v167.toNat, 768]
def k0_off5 (d0 : Dev nD) (c6_i32_129 : BitVec 32) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v169 : BitVec 32 := Scalar.xori v2 c6_i32_129
  let c256_i32_130 : BitVec 32 := 256#32
  let v170 : BitVec 32 := Scalar.muli v169 c256_i32_130
  let v171 : BitVec 32 := Scalar.addi v170 c0_i32_131
  let c768_i32 : BitVec 32 := 768#32
  ![v171.toNat, 768]
def k0_dev12 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_132 : BitVec 32 := 3#32
  let v172 : BitVec 32 := Scalar.xori v2 c3_i32_132
  let c1_i32_135 : BitVec 32 := 1#32
  let v173 : BitVec 32 := Scalar.muli v172 c1_i32_135
  let v174 : BitVec 32 := Scalar.addi c0_i32_136 v173
  v174.toNat
def k0_dev13 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_142 : BitVec 32 := 3#32
  let v184 : BitVec 32 := Scalar.xori v2 c3_i32_142
  let c1_i32_145 : BitVec 32 := 1#32
  let v185 : BitVec 32 := Scalar.muli v184 c1_i32_145
  let v186 : BitVec 32 := Scalar.addi c0_i32_146 v185
  v186.toNat
def k0_dev14 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_160 : BitVec 32 := 3#32
  let v208 : BitVec 32 := Scalar.xori v2 c3_i32_160
  let c1_i32_163 : BitVec 32 := 1#32
  let v209 : BitVec 32 := Scalar.muli v208 c1_i32_163
  let v210 : BitVec 32 := Scalar.addi c0_i32_164 v209
  v210.toNat
def k0_dev15 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_171 : BitVec 32 := 3#32
  let v220 : BitVec 32 := Scalar.xori v2 c3_i32_171
  let c1_i32_174 : BitVec 32 := 1#32
  let v221 : BitVec 32 := Scalar.muli v220 c1_i32_174
  let v222 : BitVec 32 := Scalar.addi c0_i32_175 v221
  v222.toNat
def k0_dev16 (d0 : Dev nD) : Nat :=
  let c0_i32_194 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_190 : BitVec 32 := 3#32
  let v244 : BitVec 32 := Scalar.xori v2 c3_i32_190
  let c1_i32_193 : BitVec 32 := 1#32
  let v245 : BitVec 32 := Scalar.muli v244 c1_i32_193
  let v246 : BitVec 32 := Scalar.addi c0_i32_194 v245
  v246.toNat
def k0_dev17 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_201 : BitVec 32 := 3#32
  let v256 : BitVec 32 := Scalar.xori v2 c3_i32_201
  let c1_i32_204 : BitVec 32 := 1#32
  let v257 : BitVec 32 := Scalar.muli v256 c1_i32_204
  let v258 : BitVec 32 := Scalar.addi c0_i32_205 v257
  v258.toNat
def k0_dev18 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_220 : BitVec 32 := 3#32
  let v280 : BitVec 32 := Scalar.xori v2 c3_i32_220
  let c1_i32_223 : BitVec 32 := 1#32
  let v281 : BitVec 32 := Scalar.muli v280 c1_i32_223
  let v282 : BitVec 32 := Scalar.addi c0_i32_224 v281
  v282.toNat
def k0_dev19 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_231 : BitVec 32 := 3#32
  let v292 : BitVec 32 := Scalar.xori v2 c3_i32_231
  let c1_i32_234 : BitVec 32 := 1#32
  let v293 : BitVec 32 := Scalar.muli v292 c1_i32_234
  let v294 : BitVec 32 := Scalar.addi c0_i32_235 v293
  v294.toNat
def k0_off6 (d0 : Dev nD) (c6_i32_239 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v301 : BitVec 32 := Scalar.xori v2 c6_i32_239
  let c256_i32_244 : BitVec 32 := 256#32
  let v310 : BitVec 32 := Scalar.muli v301 c256_i32_244
  let v311 : Index := Scalar.indexCast v310
  let c1408_245 : Index := 1408#32
  ![v311.toNat, 1408]
def k0_off7 (d0 : Dev nD) (c6_i32_246 : BitVec 32) (c0_i32_248 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v313 : BitVec 32 := Scalar.xori v2 c6_i32_246
  let c256_i32_247 : BitVec 32 := 256#32
  let v314 : BitVec 32 := Scalar.muli v313 c256_i32_247
  let v315 : BitVec 32 := Scalar.addi v314 c0_i32_248
  let c1408_i32 : BitVec 32 := 1408#32
  ![v315.toNat, 1408]
def k0_dev20 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_249 : BitVec 32 := 4#32
  let v316 : BitVec 32 := Scalar.xori v2 c4_i32_249
  let c1_i32_252 : BitVec 32 := 1#32
  let v317 : BitVec 32 := Scalar.muli v316 c1_i32_252
  let v318 : BitVec 32 := Scalar.addi c0_i32_253 v317
  v318.toNat
def k0_dev21 (d0 : Dev nD) : Nat :=
  let c0_i32_263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_259 : BitVec 32 := 4#32
  let v328 : BitVec 32 := Scalar.xori v2 c4_i32_259
  let c1_i32_262 : BitVec 32 := 1#32
  let v329 : BitVec 32 := Scalar.muli v328 c1_i32_262
  let v330 : BitVec 32 := Scalar.addi c0_i32_263 v329
  v330.toNat
def k0_dev22 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_278 : BitVec 32 := 4#32
  let v352 : BitVec 32 := Scalar.xori v2 c4_i32_278
  let c1_i32_281 : BitVec 32 := 1#32
  let v353 : BitVec 32 := Scalar.muli v352 c1_i32_281
  let v354 : BitVec 32 := Scalar.addi c0_i32_282 v353
  v354.toNat
def k0_dev23 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_289 : BitVec 32 := 4#32
  let v364 : BitVec 32 := Scalar.xori v2 c4_i32_289
  let c1_i32_292 : BitVec 32 := 1#32
  let v365 : BitVec 32 := Scalar.muli v364 c1_i32_292
  let v366 : BitVec 32 := Scalar.addi c0_i32_293 v365
  v366.toNat
def k0_dev24 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_308 : BitVec 32 := 4#32
  let v388 : BitVec 32 := Scalar.xori v2 c4_i32_308
  let c1_i32_311 : BitVec 32 := 1#32
  let v389 : BitVec 32 := Scalar.muli v388 c1_i32_311
  let v390 : BitVec 32 := Scalar.addi c0_i32_312 v389
  v390.toNat
def k0_dev25 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_319 : BitVec 32 := 4#32
  let v400 : BitVec 32 := Scalar.xori v2 c4_i32_319
  let c1_i32_322 : BitVec 32 := 1#32
  let v401 : BitVec 32 := Scalar.muli v400 c1_i32_322
  let v402 : BitVec 32 := Scalar.addi c0_i32_323 v401
  v402.toNat
def k0_dev26 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_338 : BitVec 32 := 4#32
  let v424 : BitVec 32 := Scalar.xori v2 c4_i32_338
  let c1_i32_341 : BitVec 32 := 1#32
  let v425 : BitVec 32 := Scalar.muli v424 c1_i32_341
  let v426 : BitVec 32 := Scalar.addi c0_i32_342 v425
  v426.toNat
def k0_dev27 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_349 : BitVec 32 := 4#32
  let v436 : BitVec 32 := Scalar.xori v2 c4_i32_349
  let c1_i32_352 : BitVec 32 := 1#32
  let v437 : BitVec 32 := Scalar.muli v436 c1_i32_352
  let v438 : BitVec 32 := Scalar.addi c0_i32_353 v437
  v438.toNat
def k0_off8 (d0 : Dev nD) (c1_i32_460 : BitVec 32) (c6_i32_461 : BitVec 32) (c0_i32_463 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v595 : BitVec 32 := Scalar.xori v2 c1_i32_460
  let v596 : BitVec 32 := Scalar.xori v595 c6_i32_461
  let c256_i32_462 : BitVec 32 := 256#32
  let v597 : BitVec 32 := Scalar.muli v596 c256_i32_462
  let v598 : BitVec 32 := Scalar.addi v597 c0_i32_463
  let v599 : Index := Scalar.indexCast v598
  let c0_464 : Index := 0#32
  ![v599.toNat, 0]
def k0_off8_at (r : Fin 14) : BitVec 32 × BitVec 32 × BitVec 32 :=
  if r.val < 7 then
    if r.val < 3 then
      if r.val < 1 then
        (1#32, 6#32, 0#32)
      else
        if r.val < 2 then
          (1#32, 6#32, 128#32)
        else
          (1#32, 2#32, 0#32)
    else
      if r.val < 5 then
        if r.val < 4 then
          (1#32, 2#32, 128#32)
        else
          (1#32, 1#32, 0#32)
      else
        if r.val < 6 then
          (1#32, 1#32, 128#32)
        else
          (1#32, 5#32, 0#32)
  else
    if r.val < 10 then
      if r.val < 8 then
        (1#32, 5#32, 128#32)
      else
        if r.val < 9 then
          (3#32, 7#32, 0#32)
        else
          (3#32, 7#32, 128#32)
    else
      if r.val < 12 then
        if r.val < 11 then
          (3#32, 3#32, 0#32)
        else
          (3#32, 3#32, 128#32)
      else
        if r.val < 13 then
          (4#32, 4#32, 0#32)
        else
          (4#32, 4#32, 128#32)
def k0_dev28 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_471 : BitVec 32 := 3#32
  let v609 : BitVec 32 := Scalar.xori v2 c3_i32_471
  let c1_i32_474 : BitVec 32 := 1#32
  let v610 : BitVec 32 := Scalar.muli v609 c1_i32_474
  let v611 : BitVec 32 := Scalar.addi c0_i32_475 v610
  v611.toNat
def k0_dev29 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_496 : BitVec 32 := 3#32
  let v638 : BitVec 32 := Scalar.xori v2 c3_i32_496
  let c1_i32_499 : BitVec 32 := 1#32
  let v639 : BitVec 32 := Scalar.muli v638 c1_i32_499
  let v640 : BitVec 32 := Scalar.addi c0_i32_500 v639
  v640.toNat
def k0_off9 (d0 : Dev nD) (c3_i32_511 : BitVec 32) (c6_i32_512 : BitVec 32) (c0_i32_514 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v653 : BitVec 32 := Scalar.xori v2 c3_i32_511
  let v654 : BitVec 32 := Scalar.xori v653 c6_i32_512
  let c256_i32_513 : BitVec 32 := 256#32
  let v655 : BitVec 32 := Scalar.muli v654 c256_i32_513
  let v656 : BitVec 32 := Scalar.addi v655 c0_i32_514
  let v657 : Index := Scalar.indexCast v656
  let c768_515 : Index := 768#32
  ![v657.toNat, 768]
def k0_off9_at (r : Fin 14) : BitVec 32 × BitVec 32 × BitVec 32 :=
  if r.val < 7 then
    if r.val < 3 then
      if r.val < 1 then
        (3#32, 6#32, 0#32)
      else
        if r.val < 2 then
          (3#32, 6#32, 128#32)
        else
          (3#32, 7#32, 0#32)
    else
      if r.val < 5 then
        if r.val < 4 then
          (3#32, 7#32, 128#32)
        else
          (3#32, 2#32, 0#32)
      else
        if r.val < 6 then
          (3#32, 2#32, 128#32)
        else
          (3#32, 3#32, 0#32)
  else
    if r.val < 10 then
      if r.val < 8 then
        (3#32, 3#32, 128#32)
      else
        if r.val < 9 then
          (4#32, 5#32, 0#32)
        else
          (4#32, 5#32, 128#32)
    else
      if r.val < 12 then
        if r.val < 11 then
          (4#32, 4#32, 0#32)
        else
          (4#32, 4#32, 128#32)
      else
        if r.val < 13 then
          (1#32, 1#32, 0#32)
        else
          (1#32, 1#32, 128#32)
def k0_dev30 (d0 : Dev nD) : Nat :=
  let c0_i32_526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_522 : BitVec 32 := 4#32
  let v667 : BitVec 32 := Scalar.xori v2 c4_i32_522
  let c1_i32_525 : BitVec 32 := 1#32
  let v668 : BitVec 32 := Scalar.muli v667 c1_i32_525
  let v669 : BitVec 32 := Scalar.addi c0_i32_526 v668
  v669.toNat
def k0_dev31 (d0 : Dev nD) : Nat :=
  let c0_i32_552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_548 : BitVec 32 := 4#32
  let v696 : BitVec 32 := Scalar.xori v2 c4_i32_548
  let c1_i32_551 : BitVec 32 := 1#32
  let v697 : BitVec 32 := Scalar.muli v696 c1_i32_551
  let v698 : BitVec 32 := Scalar.addi c0_i32_552 v697
  v698.toNat
def k0_off10 (d0 : Dev nD) (c4_i32_563 : BitVec 32) (c6_i32_564 : BitVec 32) (c0_i32_566 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v711 : BitVec 32 := Scalar.xori v2 c4_i32_563
  let v712 : BitVec 32 := Scalar.xori v711 c6_i32_564
  let c256_i32_565 : BitVec 32 := 256#32
  let v713 : BitVec 32 := Scalar.muli v712 c256_i32_565
  let v714 : BitVec 32 := Scalar.addi v713 c0_i32_566
  let v715 : Index := Scalar.indexCast v714
  let c1408_567 : Index := 1408#32
  ![v715.toNat, 1408]
def k0_off10_at (r : Fin 14) : BitVec 32 × BitVec 32 × BitVec 32 :=
  if r.val < 7 then
    if r.val < 3 then
      if r.val < 1 then
        (4#32, 6#32, 0#32)
      else
        if r.val < 2 then
          (4#32, 6#32, 128#32)
        else
          (4#32, 5#32, 0#32)
    else
      if r.val < 5 then
        if r.val < 4 then
          (4#32, 5#32, 128#32)
        else
          (4#32, 4#32, 0#32)
      else
        if r.val < 6 then
          (4#32, 4#32, 128#32)
        else
          (4#32, 7#32, 0#32)
  else
    if r.val < 10 then
      if r.val < 8 then
        (4#32, 7#32, 128#32)
      else
        if r.val < 9 then
          (1#32, 2#32, 0#32)
        else
          (1#32, 2#32, 128#32)
    else
      if r.val < 12 then
        if r.val < 11 then
          (1#32, 1#32, 0#32)
        else
          (1#32, 1#32, 128#32)
      else
        if r.val < 13 then
          (3#32, 3#32, 0#32)
        else
          (3#32, 3#32, 128#32)
def k0_dev32 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_574 : BitVec 32 := 1#32
  let v725 : BitVec 32 := Scalar.xori v2 c1_i32_574
  let c1_i32_577 : BitVec 32 := 1#32
  let v726 : BitVec 32 := Scalar.muli v725 c1_i32_577
  let v727 : BitVec 32 := Scalar.addi c0_i32_578 v726
  v727.toNat
def k0_dev33 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_600 : BitVec 32 := 1#32
  let v754 : BitVec 32 := Scalar.xori v2 c1_i32_600
  let c1_i32_603 : BitVec 32 := 1#32
  let v755 : BitVec 32 := Scalar.muli v754 c1_i32_603
  let v756 : BitVec 32 := Scalar.addi c0_i32_604 v755
  v756.toNat
def k0_dev34 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_625 : BitVec 32 := 3#32
  let v783 : BitVec 32 := Scalar.xori v2 c3_i32_625
  let c1_i32_628 : BitVec 32 := 1#32
  let v784 : BitVec 32 := Scalar.muli v783 c1_i32_628
  let v785 : BitVec 32 := Scalar.addi c0_i32_629 v784
  v785.toNat
def k0_dev35 (d0 : Dev nD) : Nat :=
  let c0_i32_654 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_650 : BitVec 32 := 3#32
  let v812 : BitVec 32 := Scalar.xori v2 c3_i32_650
  let c1_i32_653 : BitVec 32 := 1#32
  let v813 : BitVec 32 := Scalar.muli v812 c1_i32_653
  let v814 : BitVec 32 := Scalar.addi c0_i32_654 v813
  v814.toNat
def k0_dev36 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_676 : BitVec 32 := 4#32
  let v841 : BitVec 32 := Scalar.xori v2 c4_i32_676
  let c1_i32_679 : BitVec 32 := 1#32
  let v842 : BitVec 32 := Scalar.muli v841 c1_i32_679
  let v843 : BitVec 32 := Scalar.addi c0_i32_680 v842
  v843.toNat
def k0_dev37 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_702 : BitVec 32 := 4#32
  let v870 : BitVec 32 := Scalar.xori v2 c4_i32_702
  let c1_i32_705 : BitVec 32 := 1#32
  let v871 : BitVec 32 := Scalar.muli v870 c1_i32_705
  let v872 : BitVec 32 := Scalar.addi c0_i32_706 v871
  v872.toNat
def k0_dev38 (d0 : Dev nD) : Nat :=
  let c0_i32_732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_728 : BitVec 32 := 1#32
  let v899 : BitVec 32 := Scalar.xori v2 c1_i32_728
  let c1_i32_731 : BitVec 32 := 1#32
  let v900 : BitVec 32 := Scalar.muli v899 c1_i32_731
  let v901 : BitVec 32 := Scalar.addi c0_i32_732 v900
  v901.toNat
def k0_dev39 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_754 : BitVec 32 := 1#32
  let v928 : BitVec 32 := Scalar.xori v2 c1_i32_754
  let c1_i32_757 : BitVec 32 := 1#32
  let v929 : BitVec 32 := Scalar.muli v928 c1_i32_757
  let v930 : BitVec 32 := Scalar.addi c0_i32_758 v929
  v930.toNat
def k0_dev40 (d0 : Dev nD) : Nat :=
  let c0_i32_961 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_957 : BitVec 32 := 4#32
  let v1161 : BitVec 32 := Scalar.xori v2 c4_i32_957
  let c1_i32_960 : BitVec 32 := 1#32
  let v1162 : BitVec 32 := Scalar.muli v1161 c1_i32_960
  let v1163 : BitVec 32 := Scalar.addi c0_i32_961 v1162
  v1163.toNat
def k0_dev41 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_983 : BitVec 32 := 4#32
  let v1190 : BitVec 32 := Scalar.xori v2 c4_i32_983
  let c1_i32_986 : BitVec 32 := 1#32
  let v1191 : BitVec 32 := Scalar.muli v1190 c1_i32_986
  let v1192 : BitVec 32 := Scalar.addi c0_i32_987 v1191
  v1192.toNat
def k0_dev42 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1009 : BitVec 32 := 1#32
  let v1219 : BitVec 32 := Scalar.xori v2 c1_i32_1009
  let c1_i32_1012 : BitVec 32 := 1#32
  let v1220 : BitVec 32 := Scalar.muli v1219 c1_i32_1012
  let v1221 : BitVec 32 := Scalar.addi c0_i32_1013 v1220
  v1221.toNat
def k0_dev43 (d0 : Dev nD) : Nat :=
  let c0_i32_1039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1035 : BitVec 32 := 1#32
  let v1248 : BitVec 32 := Scalar.xori v2 c1_i32_1035
  let c1_i32_1038 : BitVec 32 := 1#32
  let v1249 : BitVec 32 := Scalar.muli v1248 c1_i32_1038
  let v1250 : BitVec 32 := Scalar.addi c0_i32_1039 v1249
  v1250.toNat
def k0_dev44 (d0 : Dev nD) : Nat :=
  let c0_i32_1065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1061 : BitVec 32 := 3#32
  let v1277 : BitVec 32 := Scalar.xori v2 c3_i32_1061
  let c1_i32_1064 : BitVec 32 := 1#32
  let v1278 : BitVec 32 := Scalar.muli v1277 c1_i32_1064
  let v1279 : BitVec 32 := Scalar.addi c0_i32_1065 v1278
  v1279.toNat
def k0_dev45 (d0 : Dev nD) : Nat :=
  let c0_i32_1091 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1087 : BitVec 32 := 3#32
  let v1306 : BitVec 32 := Scalar.xori v2 c3_i32_1087
  let c1_i32_1090 : BitVec 32 := 1#32
  let v1307 : BitVec 32 := Scalar.muli v1306 c1_i32_1090
  let v1308 : BitVec 32 := Scalar.addi c0_i32_1091 v1307
  v1308.toNat
def k0_off11 (d0 : Dev nD) (c0_i32_1200 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1199 : BitVec 32 := 256#32
  let v1434 : BitVec 32 := Scalar.muli v2 c256_i32_1199
  let v1435 : BitVec 32 := Scalar.addi v1434 c0_i32_1200
  let v1436 : Index := Scalar.indexCast v1435
  let c0_1201 : Index := 0#32
  ![v1436.toNat, 0]
def k0_dev46 (d0 : Dev nD) : Nat :=
  let c0_i32_1216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1212 : BitVec 32 := 4#32
  let v1451 : BitVec 32 := Scalar.xori v2 c4_i32_1212
  let c1_i32_1215 : BitVec 32 := 1#32
  let v1452 : BitVec 32 := Scalar.muli v1451 c1_i32_1215
  let v1453 : BitVec 32 := Scalar.addi c0_i32_1216 v1452
  v1453.toNat
def k0_dev47 (d0 : Dev nD) : Nat :=
  let c0_i32_1229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1225 : BitVec 32 := 3#32
  let v1466 : BitVec 32 := Scalar.xori v2 c3_i32_1225
  let c1_i32_1228 : BitVec 32 := 1#32
  let v1467 : BitVec 32 := Scalar.muli v1466 c1_i32_1228
  let v1468 : BitVec 32 := Scalar.addi c0_i32_1229 v1467
  v1468.toNat
def k0_dev48 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1238 : BitVec 32 := 1#32
  let v1481 : BitVec 32 := Scalar.xori v2 c1_i32_1238
  let c1_i32_1239 : BitVec 32 := 1#32
  let v1482 : BitVec 32 := Scalar.muli v1481 c1_i32_1239
  let v1483 : BitVec 32 := Scalar.addi c0_i32_1240 v1482
  v1483.toNat
def k0_dev49 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1271 : BitVec 32 := 4#32
  let v1524 : BitVec 32 := Scalar.xori v2 c4_i32_1271
  let c1_i32_1274 : BitVec 32 := 1#32
  let v1525 : BitVec 32 := Scalar.muli v1524 c1_i32_1274
  let v1526 : BitVec 32 := Scalar.addi c0_i32_1275 v1525
  v1526.toNat
def k0_dev50 (d0 : Dev nD) : Nat :=
  let c0_i32_1288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1284 : BitVec 32 := 3#32
  let v1539 : BitVec 32 := Scalar.xori v2 c3_i32_1284
  let c1_i32_1287 : BitVec 32 := 1#32
  let v1540 : BitVec 32 := Scalar.muli v1539 c1_i32_1287
  let v1541 : BitVec 32 := Scalar.addi c0_i32_1288 v1540
  v1541.toNat
def k0_dev51 (d0 : Dev nD) : Nat :=
  let c0_i32_1301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1297 : BitVec 32 := 1#32
  let v1554 : BitVec 32 := Scalar.xori v2 c1_i32_1297
  let c1_i32_1300 : BitVec 32 := 1#32
  let v1555 : BitVec 32 := Scalar.muli v1554 c1_i32_1300
  let v1556 : BitVec 32 := Scalar.addi c0_i32_1301 v1555
  v1556.toNat
def k0_off12 (d0 : Dev nD) (c0_i32_1320 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1319 : BitVec 32 := 256#32
  let v1580 : BitVec 32 := Scalar.muli v2 c256_i32_1319
  let v1581 : BitVec 32 := Scalar.addi v1580 c0_i32_1320
  let v1582 : Index := Scalar.indexCast v1581
  let c768_1321 : Index := 768#32
  ![v1582.toNat, 768]
def k0_dev52 (d0 : Dev nD) : Nat :=
  let c0_i32_1336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1332 : BitVec 32 := 1#32
  let v1597 : BitVec 32 := Scalar.xori v2 c1_i32_1332
  let c1_i32_1335 : BitVec 32 := 1#32
  let v1598 : BitVec 32 := Scalar.muli v1597 c1_i32_1335
  let v1599 : BitVec 32 := Scalar.addi c0_i32_1336 v1598
  v1599.toNat
def k0_dev53 (d0 : Dev nD) : Nat :=
  let c0_i32_1349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1345 : BitVec 32 := 4#32
  let v1612 : BitVec 32 := Scalar.xori v2 c4_i32_1345
  let c1_i32_1348 : BitVec 32 := 1#32
  let v1613 : BitVec 32 := Scalar.muli v1612 c1_i32_1348
  let v1614 : BitVec 32 := Scalar.addi c0_i32_1349 v1613
  v1614.toNat
def k0_dev54 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1358 : BitVec 32 := 3#32
  let v1627 : BitVec 32 := Scalar.xori v2 c3_i32_1358
  let c1_i32_1361 : BitVec 32 := 1#32
  let v1628 : BitVec 32 := Scalar.muli v1627 c1_i32_1361
  let v1629 : BitVec 32 := Scalar.addi c0_i32_1362 v1628
  v1629.toNat
def k0_dev55 (d0 : Dev nD) : Nat :=
  let c0_i32_1397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1393 : BitVec 32 := 1#32
  let v1670 : BitVec 32 := Scalar.xori v2 c1_i32_1393
  let c1_i32_1396 : BitVec 32 := 1#32
  let v1671 : BitVec 32 := Scalar.muli v1670 c1_i32_1396
  let v1672 : BitVec 32 := Scalar.addi c0_i32_1397 v1671
  v1672.toNat
def k0_dev56 (d0 : Dev nD) : Nat :=
  let c0_i32_1410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1406 : BitVec 32 := 4#32
  let v1685 : BitVec 32 := Scalar.xori v2 c4_i32_1406
  let c1_i32_1409 : BitVec 32 := 1#32
  let v1686 : BitVec 32 := Scalar.muli v1685 c1_i32_1409
  let v1687 : BitVec 32 := Scalar.addi c0_i32_1410 v1686
  v1687.toNat
def k0_dev57 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1419 : BitVec 32 := 3#32
  let v1700 : BitVec 32 := Scalar.xori v2 c3_i32_1419
  let c1_i32_1422 : BitVec 32 := 1#32
  let v1701 : BitVec 32 := Scalar.muli v1700 c1_i32_1422
  let v1702 : BitVec 32 := Scalar.addi c0_i32_1423 v1701
  v1702.toNat
def k0_off13 (d0 : Dev nD) (c0_i32_1442 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1441 : BitVec 32 := 256#32
  let v1726 : BitVec 32 := Scalar.muli v2 c256_i32_1441
  let v1727 : BitVec 32 := Scalar.addi v1726 c0_i32_1442
  let v1728 : Index := Scalar.indexCast v1727
  let c1408_1443 : Index := 1408#32
  ![v1728.toNat, 1408]
def k0_dev58 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1454 : BitVec 32 := 3#32
  let v1743 : BitVec 32 := Scalar.xori v2 c3_i32_1454
  let c1_i32_1457 : BitVec 32 := 1#32
  let v1744 : BitVec 32 := Scalar.muli v1743 c1_i32_1457
  let v1745 : BitVec 32 := Scalar.addi c0_i32_1458 v1744
  v1745.toNat
def k0_dev59 (d0 : Dev nD) : Nat :=
  let c0_i32_1471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1467 : BitVec 32 := 1#32
  let v1758 : BitVec 32 := Scalar.xori v2 c1_i32_1467
  let c1_i32_1470 : BitVec 32 := 1#32
  let v1759 : BitVec 32 := Scalar.muli v1758 c1_i32_1470
  let v1760 : BitVec 32 := Scalar.addi c0_i32_1471 v1759
  v1760.toNat
def k0_dev60 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1480 : BitVec 32 := 4#32
  let v1773 : BitVec 32 := Scalar.xori v2 c4_i32_1480
  let c1_i32_1483 : BitVec 32 := 1#32
  let v1774 : BitVec 32 := Scalar.muli v1773 c1_i32_1483
  let v1775 : BitVec 32 := Scalar.addi c0_i32_1484 v1774
  v1775.toNat
def k0_dev61 (d0 : Dev nD) : Nat :=
  let c0_i32_1519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1515 : BitVec 32 := 3#32
  let v1816 : BitVec 32 := Scalar.xori v2 c3_i32_1515
  let c1_i32_1518 : BitVec 32 := 1#32
  let v1817 : BitVec 32 := Scalar.muli v1816 c1_i32_1518
  let v1818 : BitVec 32 := Scalar.addi c0_i32_1519 v1817
  v1818.toNat
def k0_dev62 (d0 : Dev nD) : Nat :=
  let c0_i32_1532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1528 : BitVec 32 := 1#32
  let v1831 : BitVec 32 := Scalar.xori v2 c1_i32_1528
  let c1_i32_1531 : BitVec 32 := 1#32
  let v1832 : BitVec 32 := Scalar.muli v1831 c1_i32_1531
  let v1833 : BitVec 32 := Scalar.addi c0_i32_1532 v1832
  v1833.toNat
def k0_dev63 (d0 : Dev nD) : Nat :=
  let c0_i32_1545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1541 : BitVec 32 := 4#32
  let v1846 : BitVec 32 := Scalar.xori v2 c4_i32_1541
  let c1_i32_1544 : BitVec 32 := 1#32
  let v1847 : BitVec 32 := Scalar.muli v1846 c1_i32_1544
  let v1848 : BitVec 32 := Scalar.addi c0_i32_1545 v1847
  v1848.toNat
def k0_dev64 (d0 : Dev nD) : Nat :=
  let c0_i32_1564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1560 : BitVec 32 := 3#32
  let v1867 : BitVec 32 := Scalar.xori v2 c3_i32_1560
  let c1_i32_1563 : BitVec 32 := 1#32
  let v1868 : BitVec 32 := Scalar.muli v1867 c1_i32_1563
  let v1869 : BitVec 32 := Scalar.addi c0_i32_1564 v1868
  v1869.toNat
def k0_dev65 (d0 : Dev nD) : Nat :=
  let c0_i32_1576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1573 : BitVec 32 := 1#32
  let v1882 : BitVec 32 := Scalar.xori v2 c1_i32_1573
  let c1_i32_1575 : BitVec 32 := 1#32
  let v1883 : BitVec 32 := Scalar.muli v1882 c1_i32_1575
  let v1884 : BitVec 32 := Scalar.addi c0_i32_1576 v1883
  v1884.toNat
def k0_dev66 (d0 : Dev nD) : Nat :=
  let c0_i32_1595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1591 : BitVec 32 := 3#32
  let v1903 : BitVec 32 := Scalar.xori v2 c3_i32_1591
  let c1_i32_1594 : BitVec 32 := 1#32
  let v1904 : BitVec 32 := Scalar.muli v1903 c1_i32_1594
  let v1905 : BitVec 32 := Scalar.addi c0_i32_1595 v1904
  v1905.toNat
def k0_dev67 (d0 : Dev nD) : Nat :=
  let c0_i32_1608 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1604 : BitVec 32 := 1#32
  let v1918 : BitVec 32 := Scalar.xori v2 c1_i32_1604
  let c1_i32_1607 : BitVec 32 := 1#32
  let v1919 : BitVec 32 := Scalar.muli v1918 c1_i32_1607
  let v1920 : BitVec 32 := Scalar.addi c0_i32_1608 v1919
  v1920.toNat
def k0_dev68 (d0 : Dev nD) : Nat :=
  let c0_i32_1627 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1623 : BitVec 32 := 4#32
  let v1939 : BitVec 32 := Scalar.xori v2 c4_i32_1623
  let c1_i32_1626 : BitVec 32 := 1#32
  let v1940 : BitVec 32 := Scalar.muli v1939 c1_i32_1626
  let v1941 : BitVec 32 := Scalar.addi c0_i32_1627 v1940
  v1941.toNat
def k0_dev69 (d0 : Dev nD) : Nat :=
  let c0_i32_1640 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1636 : BitVec 32 := 3#32
  let v1954 : BitVec 32 := Scalar.xori v2 c3_i32_1636
  let c1_i32_1639 : BitVec 32 := 1#32
  let v1955 : BitVec 32 := Scalar.muli v1954 c1_i32_1639
  let v1956 : BitVec 32 := Scalar.addi c0_i32_1640 v1955
  v1956.toNat
def k0_dev70 (d0 : Dev nD) : Nat :=
  let c0_i32_1659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1655 : BitVec 32 := 4#32
  let v1975 : BitVec 32 := Scalar.xori v2 c4_i32_1655
  let c1_i32_1658 : BitVec 32 := 1#32
  let v1976 : BitVec 32 := Scalar.muli v1975 c1_i32_1658
  let v1977 : BitVec 32 := Scalar.addi c0_i32_1659 v1976
  v1977.toNat
def k0_dev71 (d0 : Dev nD) : Nat :=
  let c0_i32_1672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1668 : BitVec 32 := 3#32
  let v1990 : BitVec 32 := Scalar.xori v2 c3_i32_1668
  let c1_i32_1671 : BitVec 32 := 1#32
  let v1991 : BitVec 32 := Scalar.muli v1990 c1_i32_1671
  let v1992 : BitVec 32 := Scalar.addi c0_i32_1672 v1991
  v1992.toNat
def k0_dev72 (d0 : Dev nD) : Nat :=
  let c0_i32_1691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1687 : BitVec 32 := 1#32
  let v2011 : BitVec 32 := Scalar.xori v2 c1_i32_1687
  let c1_i32_1690 : BitVec 32 := 1#32
  let v2012 : BitVec 32 := Scalar.muli v2011 c1_i32_1690
  let v2013 : BitVec 32 := Scalar.addi c0_i32_1691 v2012
  v2013.toNat
def k0_dev73 (d0 : Dev nD) : Nat :=
  let c0_i32_1704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1700 : BitVec 32 := 4#32
  let v2026 : BitVec 32 := Scalar.xori v2 c4_i32_1700
  let c1_i32_1703 : BitVec 32 := 1#32
  let v2027 : BitVec 32 := Scalar.muli v2026 c1_i32_1703
  let v2028 : BitVec 32 := Scalar.addi c0_i32_1704 v2027
  v2028.toNat
def k0_dev74 (d0 : Dev nD) : Nat :=
  let c0_i32_1723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1719 : BitVec 32 := 1#32
  let v2047 : BitVec 32 := Scalar.xori v2 c1_i32_1719
  let c1_i32_1722 : BitVec 32 := 1#32
  let v2048 : BitVec 32 := Scalar.muli v2047 c1_i32_1722
  let v2049 : BitVec 32 := Scalar.addi c0_i32_1723 v2048
  v2049.toNat
def k0_dev75 (d0 : Dev nD) : Nat :=
  let c0_i32_1736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1732 : BitVec 32 := 4#32
  let v2062 : BitVec 32 := Scalar.xori v2 c4_i32_1732
  let c1_i32_1735 : BitVec 32 := 1#32
  let v2063 : BitVec 32 := Scalar.muli v2062 c1_i32_1735
  let v2064 : BitVec 32 := Scalar.addi c0_i32_1736 v2063
  v2064.toNat
def k0_dev76 (d0 : Dev nD) : Nat :=
  let c0_i32_1754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1751 : BitVec 32 := 1#32
  let v2083 : BitVec 32 := Scalar.xori v2 c1_i32_1751
  let c1_i32_1753 : BitVec 32 := 1#32
  let v2084 : BitVec 32 := Scalar.muli v2083 c1_i32_1753
  let v2085 : BitVec 32 := Scalar.addi c0_i32_1754 v2084
  v2085.toNat
def k0_dev77 (d0 : Dev nD) : Nat :=
  let c0_i32_1773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1769 : BitVec 32 := 1#32
  let v2104 : BitVec 32 := Scalar.xori v2 c1_i32_1769
  let c1_i32_1772 : BitVec 32 := 1#32
  let v2105 : BitVec 32 := Scalar.muli v2104 c1_i32_1772
  let v2106 : BitVec 32 := Scalar.addi c0_i32_1773 v2105
  v2106.toNat
def k0_dev78 (d0 : Dev nD) : Nat :=
  let c0_i32_1792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1788 : BitVec 32 := 3#32
  let v2125 : BitVec 32 := Scalar.xori v2 c3_i32_1788
  let c1_i32_1791 : BitVec 32 := 1#32
  let v2126 : BitVec 32 := Scalar.muli v2125 c1_i32_1791
  let v2127 : BitVec 32 := Scalar.addi c0_i32_1792 v2126
  v2127.toNat
def k0_dev79 (d0 : Dev nD) : Nat :=
  let c0_i32_1811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1807 : BitVec 32 := 3#32
  let v2146 : BitVec 32 := Scalar.xori v2 c3_i32_1807
  let c1_i32_1810 : BitVec 32 := 1#32
  let v2147 : BitVec 32 := Scalar.muli v2146 c1_i32_1810
  let v2148 : BitVec 32 := Scalar.addi c0_i32_1811 v2147
  v2148.toNat
def k0_dev80 (d0 : Dev nD) : Nat :=
  let c0_i32_1830 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1826 : BitVec 32 := 4#32
  let v2167 : BitVec 32 := Scalar.xori v2 c4_i32_1826
  let c1_i32_1829 : BitVec 32 := 1#32
  let v2168 : BitVec 32 := Scalar.muli v2167 c1_i32_1829
  let v2169 : BitVec 32 := Scalar.addi c0_i32_1830 v2168
  v2169.toNat
def k0_dev81 (d0 : Dev nD) : Nat :=
  let c0_i32_1849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1845 : BitVec 32 := 4#32
  let v2188 : BitVec 32 := Scalar.xori v2 c4_i32_1845
  let c1_i32_1848 : BitVec 32 := 1#32
  let v2189 : BitVec 32 := Scalar.muli v2188 c1_i32_1848
  let v2190 : BitVec 32 := Scalar.addi c0_i32_1849 v2189
  v2190.toNat
def k0_dev82 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1864 : BitVec 32 := 1#32
  let v2209 : BitVec 32 := Scalar.xori v2 c1_i32_1864
  let c1_i32_1866 : BitVec 32 := 1#32
  let v2210 : BitVec 32 := Scalar.muli v2209 c1_i32_1866
  let v2211 : BitVec 32 := Scalar.addi c0_i32_1867 v2210
  v2211.toNat
def k0_dev83 (d0 : Dev nD) : Nat :=
  let c0_i32_1886 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1882 : BitVec 32 := 1#32
  let v2230 : BitVec 32 := Scalar.xori v2 c1_i32_1882
  let c1_i32_1885 : BitVec 32 := 1#32
  let v2231 : BitVec 32 := Scalar.muli v2230 c1_i32_1885
  let v2232 : BitVec 32 := Scalar.addi c0_i32_1886 v2231
  v2232.toNat
def k0_dev84 (d0 : Dev nD) : Nat :=
  let c0_i32_1905 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1901 : BitVec 32 := 3#32
  let v2251 : BitVec 32 := Scalar.xori v2 c3_i32_1901
  let c1_i32_1904 : BitVec 32 := 1#32
  let v2252 : BitVec 32 := Scalar.muli v2251 c1_i32_1904
  let v2253 : BitVec 32 := Scalar.addi c0_i32_1905 v2252
  v2253.toNat
def k0_dev85 (d0 : Dev nD) : Nat :=
  let c0_i32_1924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1920 : BitVec 32 := 3#32
  let v2272 : BitVec 32 := Scalar.xori v2 c3_i32_1920
  let c1_i32_1923 : BitVec 32 := 1#32
  let v2273 : BitVec 32 := Scalar.muli v2272 c1_i32_1923
  let v2274 : BitVec 32 := Scalar.addi c0_i32_1924 v2273
  v2274.toNat
def k0_dev86 (d0 : Dev nD) : Nat :=
  let c0_i32_1943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1939 : BitVec 32 := 4#32
  let v2293 : BitVec 32 := Scalar.xori v2 c4_i32_1939
  let c1_i32_1942 : BitVec 32 := 1#32
  let v2294 : BitVec 32 := Scalar.muli v2293 c1_i32_1942
  let v2295 : BitVec 32 := Scalar.addi c0_i32_1943 v2294
  v2295.toNat
def k0_dev87 (d0 : Dev nD) : Nat :=
  let c0_i32_1962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1958 : BitVec 32 := 4#32
  let v2314 : BitVec 32 := Scalar.xori v2 c4_i32_1958
  let c1_i32_1961 : BitVec 32 := 1#32
  let v2315 : BitVec 32 := Scalar.muli v2314 c1_i32_1961
  let v2316 : BitVec 32 := Scalar.addi c0_i32_1962 v2315
  v2316.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Tables.lean ====
/- The plan of the kernel: which blocks each device computes, sends and receives, and where they lie. -/
module

public import proofs.«01_k».proof.Proof.Gen.KernelIdeal
public import proofs.«01_k».proof.Proof.Gen.KernelIdeal.Skeleton
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.Sem

/-! ## Parts: three column bands, each cut in an upper and a lower half of every chunk of 256 rows -/

/-- The column band of a part. -/
def col : Fin 6 → Fin 3
  | 0 => 0 | 1 => 0 | 2 => 1 | 3 => 1 | 4 => 2 | 5 => 2
/-- Whether a part is the upper (0) or the lower (1) half of a chunk. -/
def hf : Fin 6 → Nat
  | 0 => 0 | 1 => 1 | 2 => 0 | 3 => 1 | 4 => 0 | 5 => 1
/-- The upper and the lower part of a band. -/
def up : Fin 3 → Fin 6
  | 0 => 0 | 1 => 2 | 2 => 4
def dn : Fin 3 → Fin 6
  | 0 => 1 | 1 => 3 | 2 => 5
/-- Where a band's columns start, and how many there are. -/
def cstart : Fin 3 → Nat
  | 0 => 0 | 1 => 768 | 2 => 1408
def width : Fin 3 → Nat
  | 0 => 768 | 1 => 640 | 2 => 640

/-- The shapes of a chunk of a band, of a part's half chunk, of the weights of a band and of a part's receive buffer. -/
abbrev Sc (i : Fin 3) : Shape := ⟨2, ![256, width i]⟩
abbrev Sp (p : Fin 6) : Shape := ⟨2, ![128, width (col p)]⟩
abbrev SR (p : Fin 6) : Shape := ⟨2, ![896, width (col p)]⟩

/-- The order in which a band exchanges along the three axes of the cube (each named by its mask). -/
def ord : Fin 3 → Fin 3 → Fin 8
  | 0, 0 => 1 | 0, 1 => 3 | 0, 2 => 4
  | 1, 0 => 3 | 1, 1 => 4 | 1, 2 => 1
  | 2, 0 => 4 | 2, 1 => 1 | 2, 2 => 3

/-- The stage of the reduction in which the receive slot `s` is used. -/
def stg : Fin 7 → Fin 3
  | 0 => 0 | 1 => 0 | 2 => 0 | 3 => 0 | 4 => 1 | 5 => 1 | 6 => 2

/-- The key (chunk index relative to the sender) of the block sent to the slot `s`. -/
def kSi : Fin 3 → Fin 7 → Fin 8
  | 0, 0 => 6 | 0, 1 => 2 | 0, 2 => 1 | 0, 3 => 5 | 0, 4 => 7 | 0, 5 => 3 | 0, 6 => 4
  | 1, 0 => 6 | 1, 1 => 7 | 1, 2 => 2 | 1, 3 => 3 | 1, 4 => 5 | 1, 5 => 4 | 1, 6 => 1
  | 2, 0 => 6 | 2, 1 => 5 | 2, 2 => 4 | 2, 3 => 7 | 2, 4 => 2 | 2, 5 => 1 | 2, 6 => 3
def kS (p : Fin 6) (s : Fin 7) : Fin 8 := kSi (col p) s
/-- The mask between sender and receiver of the slot `s`. -/
def mR (p : Fin 6) (s : Fin 7) : Fin 8 := ord (col p) (stg s)
/-- The key, relative to the receiver, of the block received in slot `s`. -/
def kR (p : Fin 6) (s : Fin 7) : Fin 8 := kS p s ^^^ mR p s

/-- The wave of the gather in which its copy `h` is made. -/
def wav : Fin 7 → Fin 3
  | 0 => 0 | 1 => 1 | 2 => 1 | 3 => 2 | 4 => 2 | 5 => 2 | 6 => 2
/-- The mask of the gather's copy `h`. -/
def mA (p : Fin 6) : Fin 7 → Fin 8
  | 0 => ord (col p) 2 | 1 => ord (col p) 1 | 2 => ord (col p) 1
  | 3 => ord (col p) 0 | 4 => ord (col p) 0 | 5 => ord (col p) 0 | 6 => ord (col p) 0
/-- The key of the block the gather's copy `h` sends. -/
def kA (p : Fin 6) : Fin 7 → Fin 8
  | 0 => 0 | 1 => 0 | 2 => ord (col p) 2
  | 3 => 0 | 4 => ord (col p) 2 | 5 => ord (col p) 1 | 6 => ord (col p) 1 ^^^ ord (col p) 2
/-- The key, relative to the receiver, of the block the gather's copy `h` brings. -/
def kB (p : Fin 6) (h : Fin 7) : Fin 8 := kA p h ^^^ mA p h

/-! ## Memory -/

abbrev xM : Memref sig .tc .vmem S2048x256 .bf16 := Memref.whole cc0_stg0_0
abbrev wM : Memref sig .tc .vmem S256x2048 .bf16 := Memref.whole cc0_stg1_0
abbrev outM : Memref sig .tc .vmem S2048x2048 .bf16 := Memref.whole cc0_stg2_0
def rcvM : (p : Fin 6) → Memref sig .tc .vmem (SR p) .bf16
  | 0 => Memref.whole cc0_scratch0 | 1 => Memref.whole cc0_scratch3 | 2 => Memref.whole cc0_scratch6
  | 3 => Memref.whole cc0_scratch9 | 4 => Memref.whole cc0_scratch12 | 5 => Memref.whole cc0_scratch15

/-- The corner of part `p` of chunk `a` in the result, of chunk `a` of band `i`, of slot `s` in a receive buffer. -/
abbrev offO (p : Fin 6) (a : Fin 8) : Fin 2 → Nat := ![256 * a.val + 128 * hf p, cstart (col p)]
abbrev offC (i : Fin 3) (a : Fin 8) : Fin 2 → Nat := ![256 * a.val, cstart i]
abbrev offR (s : Fin 7) : Fin 2 → Nat := ![128 * s.val, 0]
abbrev offX (a : Fin 8) : Fin 2 → Nat := ![256 * a.val, 0]
abbrev offW (i : Fin 3) : Fin 2 → Nat := ![0, cstart i]

theorem offO_inb (p : Fin 6) (a : Fin 8) : ∀ j, offO p a j + (Sp p).size j ≤ S2048x2048.size j := by
  revert p a; decide
theorem offC_inb (i : Fin 3) (a : Fin 8) : ∀ j, offC i a j + (Sc i).size j ≤ S2048x2048.size j := by
  revert i a; decide
theorem offR_inb (p : Fin 6) (s : Fin 7) : ∀ j, offR s j + (Sp p).size j ≤ (SR p).size j := by
  revert p s; decide
theorem offX_inb (a : Fin 8) : ∀ j, offX a j + S256x256.size j ≤ S2048x256.size j := by
  revert a; decide
theorem offW_inb (i : Fin 3) : ∀ j, offW i j + (Sc i).size j ≤ S256x2048.size j := by
  revert i; decide
theorem half_inb (p : Fin 6) : ∀ j, (![128 * hf p, 0] : Fin 2 → Nat) j + (Sp p).size j ≤ (Sc (col p)).size j := by
  revert p; decide

abbrev rO (p : Fin 6) (a : Fin 8) : Rect S2048x2048 := Rect.unit (s := S2048x2048) (offO p a) (Sp p).size (offO_inb p a)
abbrev rC (i : Fin 3) (a : Fin 8) : Rect S2048x2048 := Rect.unit (s := S2048x2048) (offC i a) (Sc i).size (offC_inb i a)
abbrev rR (p : Fin 6) (s : Fin 7) : Rect (SR p) := Rect.unit (s := SR p) (offR s) (Sp p).size (offR_inb p s)
abbrev rX (a : Fin 8) : Rect S2048x256 := Rect.unit (s := S2048x256) (offX a) S256x256.size (offX_inb a)
abbrev rW (i : Fin 3) : Rect S256x2048 := Rect.unit (s := S256x2048) (offW i) (Sc i).size (offW_inb i)
abbrev rH (p : Fin 6) : Rect (Sc (col p)) := Rect.unit (s := Sc (col p)) ![128 * hf p, 0] (Sp p).size (half_inb p)

/-- Part `p` of chunk `a` of the result; chunk `a` of band `i`; slot `s` of part `p`'s receive buffer. -/
abbrev oM (p : Fin 6) (a : Fin 8) : Memref sig .tc .vmem (Sp p) .bf16 := outM.slice (rO p a) (fun _ => rfl)
abbrev cM (i : Fin 3) (a : Fin 8) : Memref sig .tc .vmem (Sc i) .bf16 := outM.slice (rC i a) (fun _ => rfl)
abbrev sM (p : Fin 6) (s : Fin 7) : Memref sig .tc .vmem (Sp p) .bf16 := (rcvM p).slice (rR p s) (fun _ => rfl)

/-! ## Semaphores: part `p` has fourteen send and fourteen receive semaphores, seven for each half of the protocol -/

abbrev barS : Sem sig := (SemArray.scalar (sig.barrier 0 rfl) : Sems sig S_).sem

/-- The send semaphore of the gather's copy `h`: the copies take their semaphores in the order they start. -/
def sx : Fin 7 → Fin 7
  | 0 => 0 | 1 => 1 | 2 => 3 | 3 => 2 | 4 => 4 | 5 => 5 | 6 => 6

theorem dma_lt (p : Fin 6) (r : Fin 28) : 3 + 28 * p.val + r.val < sig.nDmaSem := by
  have h : sig.nDmaSem = 171 := rfl
  omega
/-- Semaphore `r` of part `p`: 0–6 and 7–13 send, 14–20 and 21–27 receive. -/
def dsem (p : Fin 6) (r : Fin 28) : DmaSem sig := ⟨3 + 28 * p.val + r.val, dma_lt p r⟩
def sS (p : Fin 6) (s : Fin 7) : DmaSem sig := dsem p ⟨s.val, by omega⟩
def sR (p : Fin 6) (s : Fin 7) : DmaSem sig := dsem p ⟨14 + s.val, by omega⟩
def aS (p : Fin 6) (h : Fin 7) : DmaSem sig := dsem p ⟨7 + (sx h).val, by omega⟩
def aR (p : Fin 6) (h : Fin 7) : DmaSem sig := dsem p ⟨21 + h.val, by omega⟩

/-! ## Contents -/

variable {F : FTy → Type} [FloatOps F]
variable (xs : Dev nD → S2048x256.Idx → Elt F .bf16) (ws : Dev nD → S256x2048.Idx → Elt F .bf16)

/-- Chunk `a` of device `c`'s rows of `x`, and band `i` of its weights. -/
def xb (c : Dev nD) (a : Fin 8) : Vec F S256x256 .bf16 := xM.view.readAt (Elt F) (rX a).toLoadRect (xs c)
def wb (i : Fin 3) (c : Dev nD) : Vec F (Sc i) .bf16 := wM.view.readAt (Elt F) (rW i).toLoadRect (ws c)

/-- Device `c`'s product for the chunk of key `k` in band `i`. -/
def gm : (i : Fin 3) → (c : Dev nD) → (k : Fin 8) → Vec F (Sc i) .bf16
  | 0, c, k => k0_pay1 (xb xs c (c ^^^ k)) (wb ws 0 c)
  | 1, c, k => k0_pay6 (xb xs c (c ^^^ k)) (wb ws 1 c)
  | 2, c, k => k0_pay6 (xb xs c (c ^^^ k)) (wb ws 2 c)

/-- Part `p` of a chunk. -/
def half (p : Fin 6) (v : Vec F (Sc (col p)) .bf16) : Vec F (Sp p) .bf16 := fun j => v ((rH p).emb j)

theorem casts (s : Shape) : s.ShapeCasts s := rfl

/-- The sum of two blocks. -/
def acc (p : Fin 6) (a b : Vec F (Sp p) .bf16) : Vec F (Sp p) .bf16 := addf (shapeCast (Sp p) a (casts _)) b
/-- The larger of a block and zero. -/
def relu (p : Fin 6) (a : Vec F (Sp p) .bf16) : Vec F (Sp p) .bf16 :=
  maximumf (shapeCast (Sp p) a (casts _)) (broadcast (Sp p) (Scalar.ofBits .bf16 0x0000#16 : F .bf16))

/-- What device `c` holds for key `k` of part `p` after `j` stages of the reduction. -/
def Xv (p : Fin 6) : Nat → (c : Dev nD) → (k : Fin 8) → Vec F (Sp p) .bf16
  | 0, c, k => half p (gm xs ws (col p) c k)
  | 1, c, k => acc p (Xv p 0 c k) (Xv p 0 (c ^^^ ord (col p) 0) (k ^^^ ord (col p) 0))
  | 2, c, k => acc p (Xv p 1 c k) (Xv p 1 (c ^^^ ord (col p) 1) (k ^^^ ord (col p) 1))
  | _ + 3, c, k => acc p (Xv p 2 c k) (Xv p 2 (c ^^^ ord (col p) 2) (k ^^^ ord (col p) 2))

/-- The finished block of the absolute chunk `a`: the sum on the device of that index, and zero where it is negative. -/
def Yv (p : Fin 6) (a : Fin 8) : Vec F (Sp p) .bf16 := relu p (Xv xs ws p 3 a 0)

end Cert.KProof

end
-- ==== Proof.Prog.lean ====
/- The kernel's body as a list of instructions, and what it is for a program to carry out such a list. -/
module

public import proofs.«01_k».proof.Proof.Tables

@[expose] public section

noncomputable section

namespace Cert.KProof

open Cert.KernelIdeal Cert.KernelIdeal.Gen
open Idealize.ShloMosaic Idealize.ShloMosaic.TcCoe
open Idealize.SL Idealize.SL.Sem

/-- An instruction of the body. -/
inductive I where
  /-- ask for the device's index; signal the barrier of the device of mask `m`; wait for the barrier's three signals -/
  | dev | sg (m : Fin 8) | bw
  /-- read the chunk of key `k` of `x`; read band `i` of the weights; read chunk `k` of band `i` of the result; write the product there -/
  | gx (k : Fin 8) | gw (i : Fin 3) | gd (i : Fin 3) (k : Fin 8) | gs (i : Fin 3) (k : Fin 8)
  /-- reduction: start the copy to slot `s`; wait for it on the receiving side; wait for it on the sending side -/
  | sr (p : Fin 6) (s : Fin 7) | wr (p : Fin 6) (s : Fin 7) | wsr (p : Fin 6) (s : Fin 7)
  /-- gather: the same for its copy `h` -/
  | sa (p : Fin 6) (h : Fin 7) | wa (p : Fin 6) (h : Fin 7) | wsa (p : Fin 6) (h : Fin 7)
  /-- read the block of key `k` after `j` stages; read slot `s`; write the sum of the two -/
  | lo (p : Fin 6) (k : Fin 8) (j : Nat) | lr (p : Fin 6) (s : Fin 7) | st (p : Fin 6) (s : Fin 7)
  /-- read and write the finished block -/
  | sy (p : Fin 6)
  deriving DecidableEq

/-- The product for one chunk of a band. -/
abbrev gemm (i : Fin 3) (k : Fin 8) : List I := [.gx k, .gw i, .gd i k, .gs i k]
/-- Receive slot `s` and add it to the block of its key. -/
abbrev recv (p : Fin 6) (s : Fin 7) : List I :=
  [.wr p s, .lo p (kR p s) (stg s).val, .lr p s, .lo p (kR p s) (stg s).val, .st p s]
/-- The first products of a band, each sent as soon as it is there. -/
abbrev first (i : Fin 3) (s : Fin 7) : List I := gemm i (kS (up i) s) ++ [.sr (up i) s, .sr (dn i) s]
/-- The end of the reduction and the start of the gather. -/
abbrev turn (p : Fin 6) : List I :=
  recv p 6 ++ [.lo p 0 3, .lo p 0 3, .sy p, .sa p 0, .sa p 1, .sa p 3]

abbrev bands : List (Fin 3) := [0, 1, 2]
abbrev parts : List (Fin 6) := [0, 1, 2, 3, 4, 5]

/-- The entry barrier. -/
abbrev entry : List I := [.dev, .sg 1, .sg 3, .sg 4, .bw]

/-- The body after the entry barrier. -/
def sched : List I :=
  bands.flatMap (fun i => [(0 : Fin 7), 1, 2, 3].flatMap (first i))
  ++ [(0 : Fin 8), 3, 4, 7].flatMap (gemm 0) ++ [(0 : Fin 8), 1, 4, 5].flatMap (gemm 1) ++ [(0 : Fin 8), 1, 2, 3].flatMap (gemm 2)
  ++ parts.flatMap (fun p => recv p 0 ++ [.sr p 4]) ++ parts.flatMap (fun p => recv p 1 ++ [.sr p 5])
  ++ parts.flatMap (fun p => recv p 2) ++ parts.flatMap (fun p => recv p 3)
  ++ parts.flatMap (fun p => recv p 4 ++ [.sr p 6])
  ++ parts.flatMap (fun p => recv p 5)
  ++ parts.flatMap turn
  ++ parts.flatMap (fun p => [.wa p 0, .sa p 2, .sa p 4])
  ++ parts.flatMap (fun p => [.wa p 1, .sa p 5]) ++ parts.flatMap (fun p => [.wa p 2, .sa p 6])
  ++ parts.flatMap (fun p => [.wa p 3]) ++ parts.flatMap (fun p => [.wa p 4])
  ++ parts.flatMap (fun p => [.wa p 5]) ++ parts.flatMap (fun p => [.wa p 6])
  ++ bands.flatMap (fun i => [(0 : Fin 7), 1, 2, 3].flatMap (fun s => [.wsr (up i) s, .wsr (dn i) s]))
  ++ parts.map (fun p => .wsr p 4) ++ parts.map (fun p => .wsr p 5) ++ parts.map (fun p => .wsr p 6)
  ++ parts.flatMap (fun p => [.wsa p 0, .wsa p 1, .wsa p 3])
  ++ parts.flatMap (fun p => [.wsa p 2, .wsa p 4])
  ++ parts.map (fun p => .wsa p 5) ++ parts.map (fun p => .wsa p 6)

variable {F : FTy → Type} [FloatOps F]
variable (xs : Dev nD → S2048x256.Idx → Elt F .bf16) (ws : Dev nD → S256x2048.Idx → Elt F .bf16)

abbrev PR (F : FTy → Type) [FloatOps F] := Prog (TpuEff nD τ sig (Elt F) Λ₀ .tc) PUnit

/-- The program `t`, run on device `c`, carries out the instructions `l`, provided every read of a block
    whose contents are known answers those contents. -/
inductive M (c : Dev nD) : List I → PR F → Prop
  | ret : M c [] (.ret ⟨⟩)
  | dev {l} {K : _ → PR F} (n : M c l (K c)) : M c (.dev :: l) (.op .deviceId K)
  | sg {l m} {c' : Dev nD} {s : Sem sig} {v : Int} {K : _ → PR F} (hc : c' = c ^^^ m) (hs : s = barS) (hv : v = 1)
      (n : M c l (K ⟨⟩)) : M c (.sg m :: l) (.op (.semSignal (Dev.tc c') s v) K)
  | bw {l} {s : Sem sig} {v : Int} {K : _ → PR F} (hs : s = barS) (hv : v = 3)
      (n : M c l (K ⟨⟩)) : M c (.bw :: l) (.op (.semWait s v) K)
  | gx {l k} {off : Fin 2 → Nat} {inb} {hl} {K : _ → PR F} (ho : off = offX (c ^^^ k))
      (n : M c l (K (xb xs c (c ^^^ k)))) :
      M c (.gx k :: l) (.op (.load xM (Rect.unit (s := S2048x256) off S256x256.size inb).toLoadRect hl) K)
  | gw {l} {i : Fin 3} {off : Fin 2 → Nat} {inb} {hl} {K : _ → PR F} (ho : off = offW i)
      (n : M c l (K (wb ws i c))) :
      M c (.gw i :: l) (.op (.load wM (Rect.unit (s := S256x2048) off (Sc i).size inb).toLoadRect hl) K)
  | gd {l} {i : Fin 3} {k} {off : Fin 2 → Nat} {inb} {hl} {K : _ → PR F} (ho : off = offC i (c ^^^ k))
      (n : ∀ v : Vec F (Sc i) .bf16, M c l (K v)) :
      M c (.gd i k :: l) (.op (.load outM (Rect.unit (s := S2048x2048) off (Sc i).size inb).toLoadRect hl) K)
  | gs {l} {i : Fin 3} {k} {off : Fin 2 → Nat} {inb} {w} {hs hm} {K : _ → PR F} (ho : off = offC i (c ^^^ k))
      (hw : w = gm xs ws i c k) (n : M c l (K ⟨⟩)) :
      M c (.gs i k :: l) (.op (.store outM (Rect.unit (s := S2048x2048) off (Sc i).size inb) w Finset.univ hs hm) K)
  | sr {l} {p : Fin 6} {s : Fin 7} {off : Fin 2 → Nat} {inb} {offr : Fin 2 → Nat} {inbr} {hu hur} {c' : Dev nD}
      {s₁ s₂ : DmaSem sig} {hsc h₁ h₂ h₃} {K : _ → PR F}
      (ho : off = offO p (c ^^^ kS p s)) (hr : offr = offR s) (hc : c' = c ^^^ mR p s) (h1 : s₁ = sS p s) (h2 : s₂ = sR p s)
      (n : M c l (K ⟨⟩)) :
      M c (.sr p s :: l) (.op (.enqueueDma (outM.slice (Rect.unit (s := S2048x2048) off (Sp p).size inb) hu)
        (.remote (Dev.tc c') ((rcvM p).slice (Rect.unit (s := SR p) offr (Sp p).size inbr) hur) (.dma s₁) hsc) (.dma s₂) h₁ h₂ h₃) K)
  | wr {l} {p : Fin 6} {s : Fin 7} {off : Fin 2 → Nat} {inb} {offr : Fin 2 → Nat} {inbr} {hu hur}
      {s₂ : DmaSem sig} {h₁ h₂} {K : _ → PR F} (hr : offr = offR s) (h2 : s₂ = sR p s)
      (n : M c l (K ⟨⟩)) :
      M c (.wr p s :: l) (.op (.waitDma2 s₂ (outM.slice (Rect.unit (s := S2048x2048) off (Sp p).size inb) hu)
        ((rcvM p).slice (Rect.unit (s := SR p) offr (Sp p).size inbr) hur) h₁ h₂) K)
  | wsr {l} {p : Fin 6} {s : Fin 7} {off : Fin 2 → Nat} {inb} {offr : Fin 2 → Nat} {inbr} {hu hur}
      {s₁ : DmaSem sig} {h₁ h₂} {K : _ → PR F} (h1 : s₁ = sS p s)
      (n : M c l (K ⟨⟩)) :
      M c (.wsr p s :: l) (.op (.waitDma2 s₁ ((rcvM p).slice (Rect.unit (s := SR p) offr (Sp p).size inbr) hur)
        (outM.slice (Rect.unit (s := S2048x2048) off (Sp p).size inb) hu) h₁ h₂) K)
  | sa {l} {p : Fin 6} {h : Fin 7} {off : Fin 2 → Nat} {inb} {hu} {c' : Dev nD}
      {s₁ s₂ : DmaSem sig} {hsc h₁ h₂ h₃} {K : _ → PR F}
      (ho : off = offO p (c ^^^ kA p h)) (hc : c' = c ^^^ mA p h) (h1 : s₁ = aS p h) (h2 : s₂ = aR p h)
      (n : M c l (K ⟨⟩)) :
      M c (.sa p h :: l) (.op (.enqueueDma (outM.slice (Rect.unit (s := S2048x2048) off (Sp p).size inb) hu)
        (.remote (Dev.tc c') (outM.slice (Rect.unit (s := S2048x2048) off (Sp p).size inb) hu) (.dma s₁) hsc) (.dma s₂) h₁ h₂ h₃) K)
  | wa {l} {p : Fin 6} {h : Fin 7} {off : Fin 2 → Nat} {inb} {off' : Fin 2 → Nat} {inb'} {hu hu'}
      {s₂ : DmaSem sig} {h₁ h₂} {K : _ → PR F} (h2 : s₂ = aR p h)
      (n : M c l (K ⟨⟩)) :
      M c (.wa p h :: l) (.op (.waitDma2 s₂ (outM.slice (Rect.unit (s := S2048x2048) off (Sp p).size inb) hu)
        (outM.slice (Rect.unit (s := S2048x2048) off' (Sp p).size inb') hu') h₁ h₂) K)
  | wsa {l} {p : Fin 6} {h : Fin 7} {off : Fin 2 → Nat} {inb} {off' : Fin 2 → Nat} {inb'} {hu hu'}
      {s₁ : DmaSem sig} {h₁ h₂} {K : _ → PR F} (h1 : s₁ = aS p h)
      (n : M c l (K ⟨⟩)) :
      M c (.wsa p h :: l) (.op (.waitDma2 s₁ (outM.slice (Rect.unit (s := S2048x2048) off (Sp p).size inb) hu)
        (outM.slice (Rect.unit (s := S2048x2048) off' (Sp p).size inb') hu') h₁ h₂) K)
  | lo {l} {p : Fin 6} {k : Fin 8} {j : Nat} {off : Fin 2 → Nat} {inb} {hl} {K : _ → PR F} (ho : off = offO p (c ^^^ k))
      (n : M c l (K (Xv xs ws p j c k))) :
      M c (.lo p k j :: l) (.op (.load outM (Rect.unit (s := S2048x2048) off (Sp p).size inb).toLoadRect hl) K)
  | lr {l} {p : Fin 6} {s : Fin 7} {offr : Fin 2 → Nat} {inbr} {hl} {K : _ → PR F} (hr : offr = offR s)
      (n : M c l (K (Xv xs ws p (stg s).val (c ^^^ mR p s) (kS p s)))) :
      M c (.lr p s :: l) (.op (.load (rcvM p) (Rect.unit (s := SR p) offr (Sp p).size inbr).toLoadRect hl) K)
  | st {l} {p : Fin 6} {s : Fin 7} {off : Fin 2 → Nat} {inb} {w} {hs hm} {K : _ → PR F} (ho : off = offO p (c ^^^ kR p s))
      (hw : w = acc p (Xv xs ws p (stg s).val c (kR p s)) (Xv xs ws p (stg s).val (c ^^^ mR p s) (kS p s))) (n : M c l (K ⟨⟩)) :
      M c (.st p s :: l) (.op (.store outM (Rect.unit (s := S2048x2048) off (Sp p).size inb) w Finset.univ hs hm) K)
  | sy {l} {p : Fin 6} {off : Fin 2 → Nat} {inb} {w} {hs hm} {K : _ → PR F} (ho : off = offO p c)
      (hw : w = Yv xs ws p c) (n : M c l (K ⟨⟩)) :
      M c (.sy p :: l) (.op (.store outM (Rect.unit (s := S2048x2048) off (Sp p).size inb) w Finset.univ hs hm) K)

end Cert.KProof

end
-- ==== Proof.Ledger.lean ====
/- The ledger of one device: what it holds, written as a finite list, and how each instruction changes it. -/
module

public import proofs.«01_k».proof.Proof.Prog

@[expose] public section

namespace Cert.KProof

open Cert.KernelIdeal Cert.KernelIdeal.Gen
open Idealize.ShloMosaic

/-- A share of a block: all of it, its left half, its right half, the halves of the right half. -/
inductive Sh where
  | f | l | r | rl | rr
  deriving DecidableEq

/-- A thing a device holds. -/
inductive A where
  /-- chunk `k` of band `i` of its result, contents unknown -/
  | raw (i : Fin 3) (k : Fin 8)
  /-- part `p` of the chunk of key `k`, summed over `j` stages -/
  | blk (p : Fin 6) (k : Fin 8) (j : Nat)
  /-- a share of part `p` of the finished chunk of key `k` -/
  | fin (p : Fin 6) (k : Fin 8) (q : Sh)
  /-- slot `s` on the device it sends to -/
  | loc (p : Fin 6) (s : Fin 7)
  /-- its own slot `s`, holding what was received -/
  | got (p : Fin 6) (s : Fin 7)
  /-- the block that the received slot `s` came from, on the device that sent it -/
  | perm (p : Fin 6) (s : Fin 7)
  /-- the right to send slot `s`, or the gather's copy `h` -/
  | tS (p : Fin 6) (s : Fin 7) | tA (p : Fin 6) (h : Fin 7)
  /-- the right to wait for a copy sent, and for a copy to come -/
  | wS (p : Fin 6) (s : Fin 7) | wA (p : Fin 6) (h : Fin 7)
  | rS (p : Fin 6) (s : Fin 7) | rA (p : Fin 6) (h : Fin 7)
  /-- a semaphore of its own done with, and at zero -/
  | zSs (p : Fin 6) (s : Fin 7) | zSr (p : Fin 6) (s : Fin 7) | zAs (p : Fin 6) (h : Fin 7) | zAr (p : Fin 6) (h : Fin 7)
  /-- the right to signal the barrier of the device of mask `m`; to wait at its own barrier; its barrier's semaphore done with -/
  | tB (m : Fin 8) | rB | zB
  deriving DecidableEq

/-- The share of its block the gather's copy `h` carries. -/
def qs : Fin 7 → Sh
  | 0 => .l | 1 => .rl | 2 => .l | 3 => .rr | 4 => .r | 5 => .f | 6 => .f
/-- The slot whose sender receives the gather's copy `h`: the gather sends back along the reduction's copies. -/
def rvi : Fin 3 → Fin 7 → Fin 7
  | 0, 0 => 6 | 0, 1 => 5 | 0, 2 => 4 | 0, 3 => 2 | 0, 4 => 3 | 0, 5 => 1 | 0, 6 => 0
  | 1, 0 => 6 | 1, 1 => 5 | 1, 2 => 4 | 1, 3 => 3 | 1, 4 => 2 | 1, 5 => 1 | 1, 6 => 0
  | 2, 0 => 6 | 2, 1 => 5 | 2, 2 => 4 | 2, 3 => 2 | 2, 4 => 3 | 2, 5 => 1 | 2, 6 => 0
def rv (p : Fin 6) (h : Fin 7) : Fin 7 := rvi (col p) h

theorem kR_rv (p : Fin 6) (h : Fin 7) : kR p (rv p h) = kA p h := by revert p h; decide
theorem mR_rv (p : Fin 6) (h : Fin 7) : mR p (rv p h) = mA p h := by revert p h; decide

/-- The shares into which the block brought by the gather's copy `h` is cut. -/
def rsh (p : Fin 6) : Fin 7 → List A
  | 0 => [.fin p (kB p 0) .l, .fin p (kB p 0) .r]
  | 1 => [.fin p (kB p 1) .f] | 2 => [.fin p (kB p 2) .f] | 3 => [.fin p (kB p 3) .f]
  | 4 => [.fin p (kB p 4) .f] | 5 => [.fin p (kB p 5) .f] | 6 => [.fin p (kB p 6) .f]

abbrev sl7 : List (Fin 7) := [0, 1, 2, 3, 4, 5, 6]
abbrev ks8 : List (Fin 8) := [0, 1, 2, 3, 4, 5, 6, 7]
/-- An entry for every part and every slot or copy. -/
abbrev all42 (a : Fin 6 → Fin 7 → A) : List A := parts.flatMap fun p => sl7.map (a p)

/-- What an instruction needs, and what it leaves. -/
def pre : I → List A
  | .gd i k => [.raw i k] | .gs i k => [.raw i k]
  | .sr p s => [.tS p s, .blk p (kS p s) (stg s).val, .loc p s]
  | .wr p s => [.rS p s] | .wsr p s => [.wS p s]
  | .sa p h => [.tA p h, .fin p (kA p h) (qs h), .perm p (rv p h)]
  | .wa p h => [.rA p h] | .wsa p h => [.wA p h]
  | .lo p k j => [.blk p k j] | .lr p s => [.got p s] | .st p s => [.blk p (kR p s) (stg s).val]
  | .sy p => [.blk p 0 3]
  | .sg m => [.tB m] | .bw => [.rB]
  | _ => []
def post : I → List A
  | .gd i k => [.raw i k] | .gs i k => [.blk (up i) k 0, .blk (dn i) k 0]
  | .sr p s => [.wS p s]
  | .wr p s => [.got p s, .perm p s, .zSr p s] | .wsr p s => [.zSs p s]
  | .sa p h => [.wA p h]
  | .wa p h => .zAr p h :: rsh p h
  | .wsa p h => [.zAs p h, .fin p (kA p h) (qs h)]
  | .lo p k j => [.blk p k j] | .lr p s => [.got p s] | .st p s => [.blk p (kR p s) ((stg s).val + 1)]
  | .sy p => [.fin p 0 .l, .fin p 0 .rl, .fin p 0 .rr]
  | .bw => .zB :: all42 .loc
  | _ => []

/-- Take one entry out of a ledger; take several. -/
def take1 (a : A) : List A → Option (List A)
  | [] => none
  | b :: bs => if a = b then some bs else (take1 a bs).map (b :: ·)
def takes : List A → List A → Option (List A)
  | [], bs => some bs
  | a :: l, bs => (take1 a bs).bind (takes l)
/-- Run a list of instructions on a ledger. -/
def exec : List I → List A → Option (List A)
  | [], bs => some bs
  | i :: l, bs => (takes (pre i) bs).bind fun r => exec l (post i ++ r)

/-- The body. -/
abbrev body : List I := entry ++ sched

/-- The ledger at the start. -/
def led0 : List A :=
  [.tB 1, .tB 3, .tB 4, .rB] ++ bands.flatMap (fun i => ks8.map (.raw i))
  ++ all42 .tS ++ all42 .tA ++ all42 .rS ++ all42 .rA
/-- The shares of part `p` of the result at the end. -/
def ledY (p : Fin 6) : List A :=
  [.fin p 0 .l, .fin p 0 .rl, .fin p 0 .rr, .fin p (kB p 0) .l, .fin p (kB p 0) .r]
  ++ [(1 : Fin 7), 2, 3, 4, 5, 6].map fun h => .fin p (kB p h) .f
/-- The ledger at the end. -/
def led1 : List A :=
  .zB :: parts.flatMap ledY ++ all42 .got ++ all42 .zSs ++ all42 .zSr ++ all42 .zAs ++ all42 .zAr

/-- The plan's ledger balances: every instruction finds what it needs, and nothing but the last ledger is left. -/
theorem balanced : (exec body led0).bind (takes led1) = some [] := by decide +kernel

/-! ## The semaphores of one device -/

/-- A semaphore that the devices share: the barrier's, or one of a part, of one of four kinds — the reduction's send (0), the
    gather's send (1), the reduction's receive (2), the gather's receive (3) — and of a copy. -/
abbrev CI : Type := Option (Fin 6 × Fin 4 × Fin 7)
def dsm (p : Fin 6) : Fin 4 → Fin 7 → DmaSem sig
  | 0, s => sS p s | 1, s => aS p s | 2, s => sR p s | 3, s => aR p s
def csem : CI → SemLoc sig
  | none => .reg barS
  | some (p, k, s) => .dma (dsm p k s)
/-- What an instruction pays: the mask of the device it pays, and that device's semaphore. -/
def tgt : I → Option (Fin 8 × CI)
  | .sg m => some (m, none)
  | .sr p s => some (mR p s, some (p, 2, s))
  | .sa p h => some (mA p h, some (p, 3, h))
  | _ => none
/-- The level of a semaphore: what is paid later stands higher. -/
def lvl : CI → Nat
  | none => 1
  | some (_, 0, _) => 0 | some (_, 1, _) => 0
  | some (_, 2, s) => 2 + (stg s).val
  | some (_, 3, h) => 5 + (wav h).val

/-- Everything a list still has to pay is above the level `v`. -/
def above (v : Nat) (l : List I) : Bool :=
  l.all fun i => match tgt i with
    | none => true
    | some t => decide (v < lvl t.2)
/-- At every wait for a copy to come, everything still to pay is above it. -/
def orderly : List I → Bool
  | [] => true
  | i :: l => (match i with
    | .bw => above (lvl none) l
    | .wr p s => above (lvl (some (p, 2, s))) l
    | .wa p h => above (lvl (some (p, 3, h))) l
    | _ => true) && orderly l

theorem body_orderly : orderly body = true := by decide +kernel
theorem all_above : above 0 body = true := by decide +kernel

/-- How often a list pays a semaphore. -/
def times (x : CI) (l : List I) : Nat := l.countP fun i => match tgt i with
    | none => false
    | some t => decide (t.2 = x)
theorem times_bar : times none body = 3 := by decide +kernel
theorem times_recv : ∀ (p : Fin 6) (s : Fin 7), times (some (p, 2, s)) body = 1 ∧ times (some (p, 3, s)) body = 1 := by
  decide +kernel

end Cert.KProof
-- ==== Proof.Sched.lean ====
/- The contract of every semaphore: who pays it, how much, and what comes with the payment. -/
module

public import proofs.«01_k».proof.Proof.Ledger
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.MemrefSat
public import Idealize.ShloMosaic.Lib.Tactic

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The semaphore `x` of device `c`. -/
abbrev kcell (c : Dev nD) (x : CI) : GSem nD τ sig := ((c : Thread nD τ), csem x)

/-- Which shared semaphore a semaphore is. -/
def kd : SemLoc sig → Option CI
  | .reg s => if s = barS then some none else none
  | .dma n =>
    if 3 ≤ n.val then
      let q := (n.val - 3) % 28
      let s : Fin 7 := ⟨q % 7, Nat.mod_lt _ (by decide)⟩
      let p : Fin 6 := ⟨(n.val - 3) / 28 % 6, Nat.mod_lt _ (by decide)⟩
      some (some (p, if q < 7 then 0 else if q < 14 then 1 else if q < 21 then 2 else 3, if 7 ≤ q ∧ q < 14 then sx s else s))
    else none

theorem kd_csem : ∀ x : CI, kd (csem x) = some x := by decide +kernel
theorem csem_inj : Function.Injective csem := fun x y h => by
  have := congrArg kd h
  rw [kd_csem, kd_csem] at this
  exact Option.some.inj this
theorem kcell_inj {c c' : Dev nD} {x x' : CI} (h : kcell c x = kcell c' x') : c = c' ∧ x = x' :=
  ⟨congrArg (fun g : GSem nD τ sig => g.1.1) h, csem_inj (congrArg Prod.snd h)⟩

/-- The units a block of part `p` counts for on a semaphore. -/
def nb (p : Fin 6) : ℕ := (oM p 0).view.dmaCredit
theorem nb_out (p : Fin 6) (a : Fin 8) : (oM p a).view.dmaCredit = nb p := rfl
theorem nb_slot (p : Fin 6) (s : Fin 7) : (sM p s).view.dmaCredit = nb p := by
  fin_cases p <;> rfl
theorem nb_pos (p : Fin 6) : 0 < nb p := View.dmaCredit_pos _ (by revert p; decide)
/-- The units of one payment. -/
def amt : CI → ℕ
  | none => 1
  | some (p, _, _) => nb p
theorem amt_pos : ∀ x, 0 < amt x
  | none => Nat.one_pos
  | some (p, _, _) => nb_pos p

/-! ## What comes with a payment -/

variable (xs : Dev nD → S2048x256.Idx → Elt F .bf16) (ws : Dev nD → S256x2048.Idx → Elt F .bf16)

/-- The masks of a device's three neighbours. -/
def PM : Fin 3 → Fin 8 := ![1, 3, 4]

/-- The share a name stands for. -/
def shq : Sh → PosShare TreeShare
  | .f => fullShare | .l => fullShare.left | .r => fullShare.right
  | .rl => fullShare.right.left | .rr => fullShare.right.right

/-- Device `c` holds the memref `m` at contents `X`; at some contents. -/
abbrev ow (c : Dev nD) {sh : Shape} (m : Memref sig .tc .vmem sh .bf16) (q : PosShare TreeShare) (X : Vec F sh .bf16) : sProp 𝕄 :=
  owns (c : Thread nD τ) m q X
abbrev owx (c : Dev nD) {sh : Shape} (m : Memref sig .tc .vmem sh .bf16) : sProp 𝕄 :=
  iprop(∃ X : Vec F sh .bf16, ow c m fullShare X)

/-- A signal of the barrier from the neighbour of mask `PM d` brings the slots that `c` sends to over there. -/
def barPay (c : Dev nD) (d : Fin 3) : sProp 𝕄 :=
  bigSep Finset.univ fun x : Fin 6 × Fin 7 => if mR x.1 x.2 = PM d then owx (F := F) (c ^^^ PM d) (sM x.1 x.2) else iprop(emp)
/-- A copy of the reduction brings its slot with the sender's partial sum, and the block it came from over there. -/
def recvPay (c : Dev nD) (p : Fin 6) (s : Fin 7) : sProp 𝕄 :=
  iprop(ow c (sM p s) fullShare (Xv xs ws p (stg s).val (c ^^^ mR p s) (kS p s)) ∗ owx (F := F) (c ^^^ mR p s) (oM p (c ^^^ kR p s)))
/-- A copy of the gather brings the finished block. -/
def gathPay (c : Dev nD) (p : Fin 6) (h : Fin 7) : sProp 𝕄 :=
  ow c (oM p (c ^^^ kB p h)) fullShare (Yv xs ws p (c ^^^ kB p h))
/-- The gather's sending side gets its share of the block back. -/
def backPay (c : Dev nD) (p : Fin 6) (h : Fin 7) : sProp 𝕄 :=
  ow c (oM p (c ^^^ kA p h)) (shq (qs h)) (Yv xs ws p (c ^^^ kA p h))

def pay (c : Dev nD) : CI → Fin 3 → sProp 𝕄
  | none, d => barPay c d
  | some (_, 0, _), _ => iprop(emp)
  | some (p, 1, h), _ => backPay xs ws c p h
  | some (p, 2, s), _ => recvPay xs ws c p s
  | some (p, 3, h), _ => gathPay xs ws c p h

instance barPay_storable (c : Dev nD) (d : Fin 3) : BI.Storable (upEmb : UEmb _ 𝕄) (barPay (F := F) c d) := by
  unfold barPay
  have (x : Fin 6 × Fin 7) : BI.Storable (upEmb : UEmb _ 𝕄)
      (if mR x.1 x.2 = PM d then owx (F := F) (c ^^^ PM d) (sM x.1 x.2) else iprop(emp)) := by split <;> infer_instance
  infer_instance
instance pay_storable (c : Dev nD) (x : CI) (d : Fin 3) : BI.Storable (upEmb : UEmb _ 𝕄) (pay xs ws c x d) := by
  rcases x with _ | ⟨p, k, s⟩
  · exact barPay_storable c d
  · fin_cases k <;> dsimp only [pay, backPay, recvPay, gathPay] <;> infer_instance

/-! ## The contract -/

/-- One round. The barrier's semaphore is paid by the three neighbours, every other by one copy. -/
def Rd : Rounds.Schedule (GSem nD τ sig) (Fin 3) 𝕄 where
  duties g r := if r = 0 ∧ g.1.2 = .tc then (match kd g.2 with | none => ∅ | some none => Finset.univ | some (some _) => {0}) else ∅
  unitless _ := False
  amount g _ _ := match kd g.2 with | none => 1 | some x => amt x
  payload g _ d := match kd g.2 with | none => iprop(emp) | some x => pay xs ws g.1.1 x d
  amount_pos g _ _ _ := by
    split
    · exact Nat.one_pos
    · exact amt_pos _

instance Rd_payload_storable (g : GSem nD τ sig) (r : ℕ) (d : Fin 3) :
    BI.Storable (upEmb : UEmb _ 𝕄) ((Rd xs ws).payload g r d) := by
  dsimp only [Rd]
  split <;> infer_instance

section Facts
variable (c : Dev nD)

theorem duties_bar : (Rd xs ws).duties (kcell c none) 0 = Finset.univ := by
  dsimp only [Rd]; rw [kd_csem]; exact if_pos ⟨rfl, rfl⟩
theorem duties_dma (p : Fin 6) (k : Fin 4) (s : Fin 7) : (Rd xs ws).duties (kcell c (some (p, k, s))) 0 = {0} := by
  dsimp only [Rd]; rw [kd_csem]; exact if_pos ⟨rfl, rfl⟩
theorem duties_later (g : GSem nD τ sig) : ∀ r, 1 ≤ r → (Rd xs ws).duties g r = ∅ :=
  fun r hr => by dsimp only [Rd]; rw [if_neg fun h => by omega]
theorem amount_at (x : CI) (d : Fin 3) : (Rd xs ws).amount (kcell c x) 0 d = amt x := by dsimp only [Rd]; rw [kd_csem]
theorem payload_at (x : CI) (d : Fin 3) : (Rd xs ws).payload (kcell c x) 0 d = pay xs ws c x d := by dsimp only [Rd]; rw [kd_csem]
theorem expect_bar : (Rd xs ws).expect (kcell c none) 0 = 3 := by
  unfold Schedule.expect Schedule.amountOf
  rw [duties_bar, Finset.sum_congr rfl fun d _ => amount_at xs ws c none d]; rfl
theorem expect_dma (p : Fin 6) (k : Fin 4) (s : Fin 7) : (Rd xs ws).expect (kcell c (some (p, k, s))) 0 = nb p := by
  unfold Schedule.expect Schedule.amountOf; rw [duties_dma, Finset.sum_singleton, amount_at]; rfl
/-- What a wait for a copy brings. -/
theorem rest_dma (p : Fin 6) (k : Fin 4) (s : Fin 7) :
    bigSep ((Rd xs ws).duties (kcell c (some (p, k, s))) 0 \ ∅) (fun d => (Rd xs ws).payload (kcell c (some (p, k, s))) 0 d)
      = pay xs ws c (some (p, k, s)) 0 := by
  rw [Finset.sdiff_empty, duties_dma, bigSep_singleton, payload_at]
/-- What the wait at the barrier brings. -/
theorem rest_bar :
    bigSep ((Rd xs ws).duties (kcell c none) 0 \ ∅) (fun d => (Rd xs ws).payload (kcell c none) 0 d)
      = iprop(barPay (F := F) c 0 ∗ barPay c 1 ∗ barPay c 2) := by
  rw [Finset.sdiff_empty, duties_bar, bigSep_univ_eq_bigSepL [0, 1, 2] (by decide) (by decide)]
  simp only [bigSepL_cons_cons, bigSepL_singleton, payload_at]; rfl
end Facts

/-! ## What a device owes; the levels -/

/-- What device `c` still has to pay when the instructions `l` are still to do. -/
def owesOf (c : Dev nD) : List I → CellTallies nD τ sig Unit
  | [] => 0
  | i :: l => match tgt i with
    | none => owesOf c l
    | some t => owesOf c l + tallyAt (kcell (c ^^^ t.1) t.2) () (amt t.2)

def L (g : GSem nD τ sig) : Finset Unit := if g.1.2 = .tc then {()} else ∅
def lv (g : GSem nD τ sig) (_ : Unit) : ℕ := match kd g.2 with | none => 0 | some x => lvl x

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (x : CI) (u : Unit) : lv (kcell c x) u = lvl x := by dsimp only [lv]; rw [kd_csem]

/-- What is owed is owed for an instruction still to do. -/
theorem owesOf_pos {c : Dev nD} {g : GSem nD τ sig} {u : Unit} : ∀ {l : List I}, 0 < owesOf c l g u →
    ∃ i ∈ l, ∃ t, tgt i = some t ∧ g = kcell (c ^^^ t.1) t.2
  | [], h => absurd h (Nat.lt_irrefl 0)
  | i :: l, h => by
    have ih := owesOf_pos (c := c) (g := g) (u := u) (l := l)
    cases ht : tgt i with
    | none =>
      simp only [owesOf, ht] at h
      obtain ⟨j, hj, h'⟩ := ih h
      exact ⟨j, List.mem_cons_of_mem _ hj, h'⟩
    | some t =>
      simp only [owesOf, ht] at h
      rw [Pi.add_apply, Finsupp.add_apply, tallyAt_apply] at h
      by_cases hg : g = kcell (c ^^^ t.1) t.2 ∧ u = ()
      · exact ⟨i, List.mem_cons_self, t, ht, hg.1⟩
      · rw [if_neg hg, Nat.add_zero] at h
        obtain ⟨j, hj, h'⟩ := ih h
        exact ⟨j, List.mem_cons_of_mem _ hj, h'⟩

/-- A device may wait on a semaphore when everything it still has to pay is at a higher level. -/
theorem mayWait_of (c : Dev nD) (sm : SemLoc sig) (v : ℕ) (hv : lv ((c : Thread nD τ), sm) () ≤ v) (l : List I) (h : above v l = true) :
    (levAts L lv : sProp 𝕄) ⊢ MayWait (c : Thread nD τ) sm () (owesOf c l) := by
  refine MayOwe.of_cut (L := L) (lev := lv) v (fun p hp => by rw [Finset.mem_singleton.mp hp, L_tc]; exact Finset.mem_singleton_self _)
    (fun g u hg => ?_) (fun p hp => by rw [Finset.mem_singleton.mp hp]; exact hv) (fun g u hg => ?_)
  · obtain ⟨i, -, t, -, rfl⟩ := owesOf_pos hg
    rw [L_tc]; exact Finset.mem_singleton_self _
  · obtain ⟨i, hi, t, ht, rfl⟩ := owesOf_pos hg
    rw [lv_at]
    have := List.all_eq_true.mp h i hi
    rw [ht] at this
    exact of_decide_eq_true this

/-! ## What the entries of a ledger stand for -/

/-- A semaphore's position at its start, and the right to wait on it. -/
def waitR (c : Dev nD) (x : CI) : sProp 𝕄 := iprop(atPos ER (kcell c x) 0 ∅ 0 ∗ cred (tallyAt (kcell c x) () (amt x)))
/-- What a copy needs besides its blocks: the tokens of its two semaphores, and its sending semaphore's position. -/
def sendR (c d : Dev nD) (x y : CI) : sProp 𝕄 :=
  iprop(dutyTok ER (kcell c x) 0 0 ∗ dutyTok ER (kcell d y) 0 0 ∗ atPos ER (kcell c x) 0 ∅ 0)

/-- The number under which a neighbour is known at a barrier. -/
def nbr : Fin 8 → Fin 3 := ![0, 0, 0, 1, 2, 0, 0, 0]

def ent (c : Dev nD) : A → sProp 𝕄
  | .tB m => iprop(dutyTok ER (kcell (c ^^^ m) none) 0 (nbr m) ∗ barPay (F := F) (c ^^^ m) (nbr m))
  | .rB => iprop(atPos ER (kcell c none) 0 ∅ 0 ∗ cred (tallyAt (kcell c none) () 3))
  | .zB => semVal (kcell c none) 0
  | .raw i k => owx (F := F) c (cM i (c ^^^ k))
  | .blk p k j => ow c (oM p (c ^^^ k)) fullShare (Xv xs ws p j c k)
  | .fin p k q => ow c (oM p (c ^^^ k)) (shq q) (Yv xs ws p (c ^^^ k))
  | .loc p s => owx (F := F) (c ^^^ mR p s) (sM p s)
  | .got p s => ow c (sM p s) fullShare (Xv xs ws p (stg s).val (c ^^^ mR p s) (kS p s))
  | .perm p s => owx (F := F) (c ^^^ mR p s) (oM p (c ^^^ kR p s))
  | .tS p s => sendR c (c ^^^ mR p s) (some (p, 0, s)) (some (p, 2, s))
  | .tA p h => sendR c (c ^^^ mA p h) (some (p, 1, h)) (some (p, 3, h))
  | .wS p s => waitR c (some (p, 0, s))
  | .wA p h => waitR c (some (p, 1, h))
  | .rS p s => waitR c (some (p, 2, s))
  | .rA p h => waitR c (some (p, 3, h))
  | .zSs p s => semVal (kcell c (some (p, 0, s))) 0
  | .zAs p h => semVal (kcell c (some (p, 1, h))) 0
  | .zSr p s => semVal (kcell c (some (p, 2, s))) 0
  | .zAr p h => semVal (kcell c (some (p, 3, h))) 0

/-- What a ledger stands for. -/
abbrev led (c : Dev nD) (l : List A) : sProp 𝕄 := bigSepL l (ent xs ws c)

/-- What every device may use at any time: the contracts of all semaphores, and their levels. -/
def known : sProp 𝕄 :=
  iprop((bigSep Finset.univ fun cx : Dev nD × CI => iprop((∃ κ : ℕ, cellInv ER (Rd xs ws) κ (kcell cx.1 cx.2)) ∗ reached ER (kcell cx.1 cx.2) 0))
    ∗ levAts L lv)
instance known_persistent : BI.Persistent (known xs ws) := by unfold known; infer_instance

theorem known_at (c : Dev nD) (x : CI) :
    known xs ws ⊢ iprop((∃ κ : ℕ, cellInv ER (Rd xs ws) κ (kcell c x)) ∗ reached ER (kcell c x) 0) := by
  have h := bigSep_elim (Finset.mem_univ (c, x)) (Φ := fun cx : Dev nD × CI =>
    (iprop((∃ κ : ℕ, cellInv ER (Rd xs ws) κ (kcell cx.1 cx.2)) ∗ reached ER (kcell cx.1 cx.2) 0) : sProp 𝕄))
  unfold known
  iintro ⟨H, -⟩
  iapply (show _ ⊢ iprop((∃ κ : ℕ, cellInv ER (Rd xs ws) κ (kcell c x)) ∗ reached ER (kcell c x) 0) from h)
  iexact H

/-- Taking an entry out of a ledger. -/
theorem led_take1 (c : Dev nD) (a : A) : ∀ (l r : List A), take1 a l = some r →
    led xs ws c l ⊢ iprop(ent xs ws c a ∗ led xs ws c r)
  | [], _, h => by cases h
  | b :: bs, r, h => by
    unfold take1 at h
    rw [led, bigSepL_cons']
    split at h
    · rename_i hab
      cases h; subst hab; exact BI.Entails.refl _
    · cases ht : take1 a bs with
      | none => rw [ht] at h; cases h
      | some r' =>
        rw [ht] at h; cases h
        have ih := led_take1 c a bs r' ht
        rw [led, bigSepL_cons']
        iintro ⟨Hb, Hl⟩
        ihave H := ih $$ Hl
        icases H with ⟨Ha, Hr⟩
        isplitl [Ha]; · iexact Ha
        isplitl [Hb] <;> iassumption
theorem led_takes (c : Dev nD) : ∀ (t l r : List A), takes t l = some r →
    led xs ws c l ⊢ iprop(led xs ws c t ∗ led xs ws c r)
  | [], l, r, h => by
    cases h
    iintro H; isplitr
    · rw [led, bigSepL_nil]; iempintro
    · iexact H
  | a :: t, l, r, h => by
    unfold takes at h
    cases ht : take1 a l with
    | none => rw [ht] at h; cases h
    | some r' =>
      rw [ht] at h
      rw [led, led, bigSepL_cons']
      iintro H
      ihave H := (led_take1 xs ws c a l r' ht) $$ H
      icases H with ⟨Ha, H⟩
      ihave H := (led_takes c t r' r h) $$ H
      icases H with ⟨Ht, H⟩
      isplitr [H]
      · isplitl [Ha] <;> iassumption
      · iexact H

end Cert.KProof

end
-- ==== Proof.Geo.lean ====
/- Where the blocks lie: the chunks of the bands, the halves of a chunk, the slots of a receive buffer. -/
module

public import proofs.«01_k».proof.Proof.Sched

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-- The elements of a part's half chunk, of a band's chunk, of a slot. -/
theorem mem_rO (p : Fin 6) (a : Fin 8) (j : S2048x2048.Idx) : j ∈ (rO p a).set ↔
    (256 * a.val + 128 * hf p ≤ (j 0).val ∧ (j 0).val < 256 * a.val + 128 * hf p + 128)
      ∧ cstart (col p) ≤ (j 1).val ∧ (j 1).val < cstart (col p) + width (col p) := by
  rw [Rect.mem_set_unit, Fin.forall_fin_two]; exact Iff.rfl
theorem mem_rC (i : Fin 3) (a : Fin 8) (j : S2048x2048.Idx) : j ∈ (rC i a).set ↔
    (256 * a.val ≤ (j 0).val ∧ (j 0).val < 256 * a.val + 256)
      ∧ cstart i ≤ (j 1).val ∧ (j 1).val < cstart i + width i := by
  rw [Rect.mem_set_unit, Fin.forall_fin_two]; exact Iff.rfl
theorem mem_rR (p : Fin 6) (s : Fin 7) (j : (SR p).Idx) : j ∈ (rR p s).set ↔
    (128 * s.val ≤ (j 0).val ∧ (j 0).val < 128 * s.val + 128) ∧ 0 ≤ (j 1).val ∧ (j 1).val < 0 + width (col p) := by
  rw [Rect.mem_set_unit, Fin.forall_fin_two]; exact Iff.rfl

/-- Bands do not overlap and fill the columns. -/
theorem band_of (n : ℕ) (hn : n < 2048) : ∃ i : Fin 3, cstart i ≤ n ∧ n < cstart i + width i := by
  by_cases h0 : n < 768
  · exact ⟨0, by simp only [cstart, width]; omega⟩
  by_cases h1 : n < 1408
  · exact ⟨1, by simp only [cstart, width]; omega⟩
  exact ⟨2, by simp only [cstart, width]; omega⟩
theorem band_unique (n : ℕ) (i i' : Fin 3) (h : cstart i ≤ n ∧ n < cstart i + width i) (h' : cstart i' ≤ n ∧ n < cstart i' + width i') : i = i' := by
  fin_cases i <;> fin_cases i' <;> simp only [cstart, width] at h h' <;> first | rfl | (exfalso; omega)
theorem part_of (i : Fin 3) : col (up i) = i ∧ hf (up i) = 0 ∧ col (dn i) = i ∧ hf (dn i) = 1 := by revert i; decide
theorem part_unique (p p' : Fin 6) (h : col p = col p') (h' : hf p = hf p') : p = p' := by revert p p'; decide
theorem updn (i : Fin 3) : up i ≠ dn i := by revert i; decide
theorem hf_lt (p : Fin 6) : hf p < 2 := by revert p; decide

/-- The chunks of the bands are disjoint and cover the result. -/
theorem rC_disj (t t' : Fin 3 × Fin 8) (h : t ≠ t') : Disjoint (rC t.1 t.2).set (rC t'.1 t'.2).set := by
  rw [Finset.disjoint_left]
  intro j h1 h2
  rw [mem_rC] at h1 h2
  have hb := band_unique _ _ _ h1.2 h2.2
  exact h (Prod.ext hb (Fin.ext (by omega)))
theorem rC_cover : (Finset.univ : Finset (Fin 3 × Fin 8)).biUnion (fun t => (rC t.1 t.2).set) = Finset.univ := by
  ext j
  have h0 : (j 0).val < 2048 := (j 0).isLt
  obtain ⟨i, hi⟩ := band_of (j 1).val (j 1).isLt
  simp only [Finset.mem_biUnion, Finset.mem_univ, true_and, iff_true]
  refine ⟨(i, ⟨(j 0).val / 256, by omega⟩), (mem_rC _ _ _).mpr ⟨?_, hi⟩⟩
  dsimp only; omega

/-- The parts of the chunks are disjoint and cover the result. -/
theorem rO_disj (t t' : Fin 6 × Fin 8) (h : t ≠ t') : Disjoint (rO t.1 t.2).set (rO t'.1 t'.2).set := by
  rw [Finset.disjoint_left]
  intro j h1 h2
  rw [mem_rO] at h1 h2
  have hb := band_unique _ _ _ h1.2 h2.2
  have := hf_lt t.1
  have := hf_lt t'.1
  have hp := part_unique t.1 t'.1 hb (by omega)
  exact h (Prod.ext hp (Fin.ext (by omega)))
theorem rO_cover : (Finset.univ : Finset (Fin 6 × Fin 8)).biUnion (fun t => (rO t.1 t.2).set) = Finset.univ := by
  ext j
  have h0 : (j 0).val < 2048 := (j 0).isLt
  obtain ⟨i, hi⟩ := band_of (j 1).val (j 1).isLt
  obtain ⟨h1, h2, h3, h4⟩ := part_of i
  simp only [Finset.mem_biUnion, Finset.mem_univ, true_and, iff_true]
  by_cases hh : (j 0).val % 256 < 128
  · refine ⟨(up i, ⟨(j 0).val / 256, by omega⟩), (mem_rO _ _ _).mpr ⟨?_, by rw [h1]; exact hi⟩⟩
    dsimp only; omega
  · refine ⟨(dn i, ⟨(j 0).val / 256, by omega⟩), (mem_rO _ _ _).mpr ⟨?_, by rw [h3]; exact hi⟩⟩
    dsimp only; omega

/-- The slots of a receive buffer are disjoint and cover it. -/
theorem rR_disj (p : Fin 6) (s s' : Fin 7) (h : s ≠ s') : Disjoint (rR p s).set (rR p s').set := by
  rw [Finset.disjoint_left]
  intro j h1 h2
  rw [mem_rR] at h1 h2
  exact h (Fin.ext (by omega))
theorem rR_cover (p : Fin 6) : (Finset.univ : Finset (Fin 7)).biUnion (fun s => (rR p s).set) = Finset.univ := by
  ext j
  have h0 : (j 0).val < 896 := (j 0).isLt
  have h1 : (j 1).val < width (col p) := (j 1).isLt
  simp only [Finset.mem_biUnion, Finset.mem_univ, true_and, iff_true]
  refine ⟨⟨(j 0).val / 128, by omega⟩, (mem_rR _ _ _).mpr ⟨?_, by omega⟩⟩
  dsimp only; omega

/-- A chunk of a band is its upper and its lower half. -/
theorem rC_halves (i : Fin 3) (a : Fin 8) : (rC i a).set = (rO (up i) a).set ∪ (rO (dn i) a).set := by
  obtain ⟨h1, h2, h3, h4⟩ := part_of i
  ext j
  rw [Finset.mem_union, mem_rC, mem_rO, mem_rO, h1, h2, h3, h4]
  omega
/-- An element of a part is the same element of its half of the chunk. -/
theorem emb_half (p : Fin 6) (a : Fin 8) (j : (Sp p).Idx) : (rC (col p) a).emb ((rH p).emb j) = (rO p a).emb j := by
  funext b
  fin_cases b <;> apply Fin.ext <;> simp [Rect.emb, Rect.unit] <;> omega

/-- The elements of a part, in a buffer whose chunk holds `X`, hold that part of `X`. -/
theorem chunk_part (c : Dev nD) (p : Fin 6) (a : Fin 8) (X : Vec F (Sc (col p)) .bf16) (g : outM.view.ty.Contents (Elt F))
    (hg : ∀ j, outM.view.read (Elt F) g ((rC (col p) a).emb j) = X j) :
    (outM.view.loc (c : Thread nD τ) ↦[(outM.view.slice (rO p a)).set]{fullShare} g : sProp 𝕄) ⊢ ow c (oM p a) fullShare (half p X) := by
  have h : half p X = fun j => outM.view.read (Elt F) g ((rO p a).emb j) := by
    funext j
    rw [← emb_half, hg]; rfl
  rw [h]
  exact Entails.of_eq (owns_slice_read (c : Thread nD τ) outM fullShare (rO p a) (fun _ => rfl) g).symm

variable (xs : Dev nD → S2048x256.Idx → Elt F .bf16) (ws : Dev nD → S256x2048.Idx → Elt F .bf16)

theorem Xv_zero (p : Fin 6) (c : Dev nD) (k : Fin 8) : Xv xs ws p 0 c k = half p (gm xs ws (col p) c k) := by rw [Xv]

/-- A chunk holding the product is cut in its halves. -/
theorem chunk_halves (c : Dev nD) (i : Fin 3) (a k : Fin 8) :
    ow c (cM i a) fullShare (gm xs ws i c k)
      ⊢ iprop(ow c (oM (up i) a) fullShare (Xv xs ws (up i) 0 c k) ∗ ow c (oM (dn i) a) fullShare (Xv xs ws (dn i) 0 c k)) := by
  have hd : Disjoint (outM.view.slice (rO (up i) a)).set (outM.view.slice (rO (dn i) a)).set := by
    rw [View.set_slice, View.set_slice]
    exact (Finset.disjoint_map _).mpr (rO_disj (up i, a) (dn i, a) fun h => updn i (congrArg Prod.fst h))
  have hs : (outM.view.slice (rC i a)).set = (outM.view.slice (rO (up i) a)).set ∪ (outM.view.slice (rO (dn i) a)).set := by
    rw [View.set_slice, View.set_slice, View.set_slice, rC_halves]; exact Finset.map_union _ _
  have hc (i' : Fin 3) (h : i' = i) (g : outM.view.ty.Contents (Elt F)) (hg : (cM i a).view.read (Elt F) g = gm xs ws i c k) :
      ∀ j, outM.view.read (Elt F) g ((rC i' a).emb j) = gm xs ws i' c k j := by subst h; exact congrFun hg
  have e : ow c (cM i a) fullShare (gm xs ws i c k) ⊢ (iprop(∃ g, ⌜(cM i a).view.read (Elt F) g = gm xs ws i c k⌝
      ∗ ((outM.view.slice (rC i a)).loc (c : Thread nD τ) ↦[(outM.view.slice (rC i a)).set]{fullShare} g)) : sProp 𝕄) := .rfl
  rw [Xv_zero, Xv_zero]
  iintro H
  ihave H := e $$ H
  icases H with ⟨%g, %hg, H⟩
  rw [hs]
  ihave H := (pointsTo_union hd).1 $$ H
  icases H with ⟨H1, H2⟩
  isplitl [H1]
  · iapply (chunk_part c (up i) a _ g (hc _ (part_of i).1 g hg)); iexact H1
  · iapply (chunk_part c (dn i) a _ g (hc _ (part_of i).2.2.1 g hg)); iexact H2

end Cert.KProof

end
-- ==== Proof.Step.lean ====
/- One lemma per kind of instruction: what it takes from the ledger and what it gives back. -/
module

public import proofs.«01_k».proof.Proof.Geo

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

abbrev 𝒱₀ : Variants := Variants.none

/-- The program `t` runs on device `c` to a state with `Q`. -/
abbrev wpc (c : Dev nD) (t : PR F) (Q : PUnit → sProp 𝕄) : sProp 𝕄 :=
  wp frame (wpE (defs₀ (F := F)) 𝒱₀ (c : Thread nD τ) none) Set.univ t Q

variable (xs : Dev nD → S2048x256.Idx → Elt F .bf16) (ws : Dev nD → S256x2048.Idx → Elt F .bf16)

/-- The device's two arguments, in its on-chip memory. -/
def stage (c : Dev nD) : sProp 𝕄 := iprop(ow c xM fullShare (xs c) ∗ ow c wM fullShare (ws c))
/-- What the device owes while the instructions `l` are still to do. -/
def debt (c : Dev nD) (l : List I) : sProp 𝕄 := iprop(∃ W, owes (c : Thread nD τ) (owesOf c l) W)
/-- The state of a device before the instructions `l`, with the ledger `b` and something else `R`. -/
def St (c : Dev nD) (l : List I) (b : List A) (R : sProp 𝕄) : sProp 𝕄 :=
  iprop(known xs ws ∗ stage xs ws c ∗ led xs ws c b ∗ R ∗ debt c l)

variable {xs ws}
variable {c : Dev nD} {l : List I} {R : sProp (MT nD τ sig Unit (Elt F) ℕ UU ℕ)} {Q : PUnit → sProp (MT nD τ sig Unit (Elt F) ℕ UU ℕ)}

/-! ## Reads and writes of blocks -/

/-- A read of a block answers what it holds. -/
theorem wp_read {sh : Shape} (m : Memref sig .tc .vmem sh .bf16) (r : Rect sh) (hr : ∀ a, r.stride a = 1) {q : PosShare TreeShare}
    (X : Vec F r.shape .bf16) {hl} {K : _ → PR F} :
    (ow c (m.slice r hr) q X) ⊢ iprop((ow c (m.slice r hr) q X -∗ wpc c (K X) Q) -∗ wpc c (.op (.load m r.toLoadRect hl) K) Q) := by
  unfold ow owns
  iintro ⟨%f, %hf, H⟩ Hk
  iapply (wp_load_rect 𝒱₀ (c : Thread nD τ) none Set.univ (m := m) (r := r) (hl := hl) (Finset.Subset.refl _)) $$ H
  iintro H
  rw [show (m.access r).read (Elt F) f = X from hf]
  iapply Hk
  iexists f
  isplitr; · ipureintro; exact hf
  iexact H

/-- A read of a part of an argument. -/
theorem wp_read_part {sh : Shape} (m : Memref sig .tc .vmem sh .bf16) (r : Rect sh) {q : PosShare TreeShare}
    (X : Vec F sh .bf16) {hl} {K : _ → PR F} :
    (ow c m q X) ⊢ iprop((ow c m q X -∗ wpc c (K (fun j => X (r.emb j))) Q) -∗ wpc c (.op (.load m r.toLoadRect hl) K) Q) := by
  unfold ow owns
  iintro ⟨%f, %hf, H⟩ Hk
  iapply (wp_load_rect 𝒱₀ (c : Thread nD τ) none Set.univ (m := m) (r := r) (hl := hl) (m.view.set_slice_subset r)) $$ H
  iintro H
  rw [show (m.access r).read (Elt F) f = fun j => X (r.emb j) from by rw [← hf]; rfl]
  iapply Hk
  iexists f
  isplitr; · ipureintro; exact hf
  iexact H

/-- A write of a block leaves what was written. -/
theorem wp_write {sh : Shape} (m : Memref sig .tc .vmem sh .bf16) (r : Rect sh) (hr : ∀ a, r.stride a = 1)
    (X : Vec F r.shape .bf16) {w : Vec F r.shape .bf16} {hs hm} {K : _ → PR F} :
    (ow c (m.slice r hr) fullShare X)
      ⊢ iprop((ow c (m.slice r hr) fullShare w -∗ wpc c (K ⟨⟩) Q) -∗ wpc c (.op (.store m r w Finset.univ hs hm) K) Q) := by
  unfold ow owns
  iintro ⟨%f, %hf, H⟩ Hk
  iapply (wp_store 𝒱₀ (c : Thread nD τ) none Set.univ (m := m) (r := r) (Mk := Finset.univ) (S := (m.slice r hr).view.set) (Finset.Subset.refl _)) $$ H
  iintro H
  iapply Hk
  iexists _
  isplitr
  · ipureintro; exact View.read_write_univ (v := m.access r) f w
  iexact H

/-! ## Instructions that only read or write -/

theorem step_dev {K : _ → PR F} (h : St xs ws c l [] R ⊢ wpc c (K c) Q) :
    St xs ws c (.dev :: l) [] R ⊢ wpc c (.op .deviceId K) Q := by
  unfold wpc; rw [wp_deviceId]; exact h

/-- An instruction that works on the arguments alone. -/
theorem on_stage {i : I} {t t' : PR F} (hi : owesOf c (i :: l) = owesOf c l)
    (hs : stage xs ws c ⊢ iprop((stage xs ws c -∗ wpc c t' Q) -∗ wpc c t Q))
    (h : St xs ws c l [] R ⊢ wpc c t' Q) : St xs ws c (i :: l) [] R ⊢ wpc c t Q := by
  unfold St debt; rw [hi]
  iintro ⟨HK, Hs, Hl, HR, HO⟩
  iapply hs $$ Hs
  iintro Hs
  iapply h
  unfold St debt
  isplitl [HK]; · iexact HK
  isplitl [Hs]; · iexact Hs
  isplitl [Hl]; · iexact Hl
  isplitl [HR] <;> iassumption

/-- An instruction that works on the ledger alone. -/
theorem on_ledger {i : I} {b b' : List A} {t t' : PR F} (hi : owesOf c (i :: l) = owesOf c l)
    (hs : led xs ws c b ⊢ iprop((led xs ws c b' -∗ wpc c t' Q) -∗ wpc c t Q))
    (h : St xs ws c l b' R ⊢ wpc c t' Q) : St xs ws c (i :: l) b R ⊢ wpc c t Q := by
  unfold St debt; rw [hi]
  iintro ⟨HK, Hs, Hl, HR, HO⟩
  iapply hs $$ Hl
  iintro Hl
  iapply h
  unfold St debt
  isplitl [HK]; · iexact HK
  isplitl [Hs]; · iexact Hs
  isplitl [Hl]; · iexact Hl
  isplitl [HR] <;> iassumption

theorem step_gx {k : Fin 8} {hl} {K : _ → PR F} (h : St xs ws c l [] R ⊢ wpc c (K (xb xs c (c ^^^ k))) Q) :
    St xs ws c (.gx k :: l) [] R ⊢ wpc c (.op (.load xM (rX (c ^^^ k)).toLoadRect hl) K) Q := by
  refine on_stage rfl ?_ h
  unfold stage
  iintro ⟨Hx, Hw⟩ Hk
  iapply (wp_read_part xM (rX (c ^^^ k)) (xs c)) $$ Hx
  iintro Hx
  iapply Hk
  isplitl [Hx] <;> iassumption

theorem step_gw {i : Fin 3} {hl} {K : _ → PR F} (h : St xs ws c l [] R ⊢ wpc c (K (wb ws i c)) Q) :
    St xs ws c (.gw i :: l) [] R ⊢ wpc c (.op (.load wM (rW i).toLoadRect hl) K) Q := by
  refine on_stage rfl ?_ h
  unfold stage
  iintro ⟨Hx, Hw⟩ Hk
  iapply (wp_read_part wM (rW i) (ws c)) $$ Hw
  iintro Hw
  iapply Hk
  isplitl [Hx] <;> iassumption

theorem step_gd {i : Fin 3} {k : Fin 8} {hl} {K : _ → PR F} (h : ∀ v : Vec F (Sc i) .bf16, St xs ws c l [.raw i k] R ⊢ wpc c (K v) Q) :
    St xs ws c (.gd i k :: l) [.raw i k] R ⊢ wpc c (.op (.load outM (rC i (c ^^^ k)).toLoadRect hl) K) Q := by
  unfold St led; rw [bigSepL_singleton, ent]
  iintro ⟨HK, Hs, ⟨%X, Hl⟩, HR, HO⟩
  iapply (wp_read outM (rC i (c ^^^ k)) (fun _ => rfl) X) $$ Hl
  iintro Hl
  iapply (h X)
  unfold St led; rw [bigSepL_singleton, ent]
  isplitl [HK]; · iexact HK
  isplitl [Hs]; · iexact Hs
  isplitl [Hl]; · iexists X; iexact Hl
  isplitl [HR]; · iexact HR
  iexact HO

theorem step_gs {i : Fin 3} {k : Fin 8} {hs hm} {K : _ → PR F}
    (h : St xs ws c l [.blk (up i) k 0, .blk (dn i) k 0] R ⊢ wpc c (K ⟨⟩) Q) :
    St xs ws c (.gs i k :: l) [.raw i k] R ⊢ wpc c (.op (.store outM (rC i (c ^^^ k)) (gm xs ws i c k) Finset.univ hs hm) K) Q := by
  refine on_ledger rfl ?_ h
  unfold led; rw [bigSepL_singleton, bigSepL_cons_cons, bigSepL_singleton, ent, ent, ent]
  iintro ⟨%X, Hl⟩ Hk
  iapply (wp_write outM (rC i (c ^^^ k)) (fun _ => rfl) X) $$ Hl
  iintro Hl
  iapply Hk
  iapply (chunk_halves xs ws c i (c ^^^ k) k)
  iexact Hl

theorem step_lo {p : Fin 6} {k : Fin 8} {j : Nat} {hl} {K : _ → PR F} (h : St xs ws c l [.blk p k j] R ⊢ wpc c (K (Xv xs ws p j c k)) Q) :
    St xs ws c (.lo p k j :: l) [.blk p k j] R ⊢ wpc c (.op (.load outM (rO p (c ^^^ k)).toLoadRect hl) K) Q := by
  refine on_ledger rfl ?_ h
  unfold led; rw [bigSepL_singleton, ent]
  exact wp_read outM (rO p (c ^^^ k)) (fun _ => rfl) _

theorem step_lr {p : Fin 6} {s : Fin 7} {hl} {K : _ → PR F}
    (h : St xs ws c l [.got p s] R ⊢ wpc c (K (Xv xs ws p (stg s).val (c ^^^ mR p s) (kS p s))) Q) :
    St xs ws c (.lr p s :: l) [.got p s] R ⊢ wpc c (.op (.load (rcvM p) (rR p s).toLoadRect hl) K) Q := by
  refine on_ledger rfl ?_ h
  unfold led; rw [bigSepL_singleton, ent]
  exact wp_read (rcvM p) (rR p s) (fun _ => rfl) _

/-- One stage of the reduction. -/
theorem Xv_step (p : Fin 6) (s : Fin 7) (c : Dev nD) : Xv xs ws p ((stg s).val + 1) c (kR p s)
    = acc p (Xv xs ws p (stg s).val c (kR p s)) (Xv xs ws p (stg s).val (c ^^^ mR p s) (kS p s)) := by
  have hk : kS p s = kR p s ^^^ ord (col p) (stg s) := by revert p s; decide
  rw [hk, mR]
  generalize stg s = j
  fin_cases j
  · exact Xv.eq_2 ..
  · exact Xv.eq_3 ..
  · exact Xv.eq_4 ..

theorem step_st {p : Fin 6} {s : Fin 7} {w : Vec F (Sp p) .bf16} {hs hm} {K : _ → PR F}
    (hw : w = acc p (Xv xs ws p (stg s).val c (kR p s)) (Xv xs ws p (stg s).val (c ^^^ mR p s) (kS p s)))
    (h : St xs ws c l [.blk p (kR p s) ((stg s).val + 1)] R ⊢ wpc c (K ⟨⟩) Q) :
    St xs ws c (.st p s :: l) [.blk p (kR p s) (stg s).val] R ⊢ wpc c (.op (.store outM (rO p (c ^^^ kR p s)) w Finset.univ hs hm) K) Q := by
  refine on_ledger rfl ?_ h
  unfold led; rw [bigSepL_singleton, bigSepL_singleton, ent, ent, hw, ← Xv_step]
  exact wp_write outM (rO p (c ^^^ kR p s)) (fun _ => rfl) _

theorem xor_zero (c : Dev nD) : c ^^^ (0 : Fin 8) = c := by revert c; decide

/-- The shares of a finished block at home. -/
theorem home_shares {sh : Shape} (m : Memref sig .tc .vmem sh .bf16) (X : Vec F sh .bf16) :
    ow c m fullShare X ⊢ iprop(ow c m (shq .l) X ∗ ow c m (shq .rl) X ∗ ow c m (shq .rr) X) := by
  iintro H
  ihave H := (owns_halves (c := (c : Thread nD τ)) (m := m) (q := fullShare) X).1 $$ H
  icases H with ⟨H1, H2⟩
  ihave H := (owns_halves (c := (c : Thread nD τ)) (m := m) (q := fullShare.right) X).1 $$ H2
  icases H with ⟨H2, H3⟩
  isplitl [H1]; · iexact H1
  isplitl [H2]; · iexact H2
  iexact H3

theorem step_sy {p : Fin 6} {w : Vec F (Sp p) .bf16} {hs hm} {K : _ → PR F} (hw : w = Yv xs ws p c)
    (h : St xs ws c l [.fin p 0 .l, .fin p 0 .rl, .fin p 0 .rr] R ⊢ wpc c (K ⟨⟩) Q) :
    St xs ws c (.sy p :: l) [.blk p 0 3] R ⊢ wpc c (.op (.store outM (rO p c) w Finset.univ hs hm) K) Q := by
  refine on_ledger rfl ?_ h
  unfold led; rw [bigSepL_singleton, bigSepL_cons_cons, bigSepL_cons_cons, bigSepL_singleton, ent, ent, ent, ent, hw, xor_zero]
  iintro Hl Hk
  iapply (wp_write outM (rO p c) (fun _ => rfl) _) $$ Hl
  iintro Hl
  iapply Hk
  iapply (home_shares (c := c) (oM p c) (Yv xs ws p c))
  iexact Hl

end Cert.KProof

end
-- ==== Proof.Comm.lean ====
/- The instructions that signal, wait and copy. -/
module

public import proofs.«01_k».proof.Proof.Step

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable {xs : Dev nD → S2048x256.Idx → Elt F .bf16} {ws : Dev nD → S256x2048.Idx → Elt F .bf16}
variable {c : Dev nD} {l : List I} {R : sProp (MT nD τ sig Unit (Elt F) ℕ UU ℕ)} {Q : PUnit → sProp (MT nD τ sig Unit (Elt F) ℕ UU ℕ)}

theorem known_levels : known xs ws ⊢ (levAts L lv : sProp 𝕄) := by unfold known; iintro ⟨-, H⟩; iexact H

/-- An instruction that works on the ledger and on what is owed. -/
theorem on_debt {i : I} {b b' : List A} {t t' : PR F}
    (hs : iprop(known xs ws ∗ led xs ws c b ∗ debt c (i :: l)) ⊢ iprop(((led xs ws c b' ∗ debt c l) -∗ wpc c t' Q) -∗ wpc c t Q))
    (h : St xs ws c l b' R ⊢ wpc c t' Q) : St xs ws c (i :: l) b R ⊢ wpc c t Q := by
  unfold St
  iintro ⟨#HK, Hs, Hl, HR, HO⟩
  iapply hs $$ [Hl HO]
  · isplitr; · iexact HK
    isplitl [Hl]; · iexact Hl
    iexact HO
  iintro ⟨Hl, HO⟩
  iapply h
  unfold St
  isplitr; · iexact HK
  isplitl [Hs]; · iexact Hs
  isplitl [Hl]; · iexact Hl
  isplitl [HR]; · iexact HR
  iexact HO

/-- A wait for all that a semaphore of a device is to be paid: what comes with the payments, and the semaphore at zero. -/
theorem wp_wait_all (x : CI) (n : ℕ) (hn : (Rd xs ws).expect (kcell c x) 0 = n) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem x) n K)
    {K : PUnit → PR F} (ha : above (lvl x) l = true) :
    iprop(known xs ws ∗ atPos ER (kcell c x) 0 ∅ 0 ∗ cred (tallyAt (kcell c x) () n) ∗ debt c l)
      ⊢ iprop(((semVal (kcell c x) 0 ∗ debt c l
          ∗ bigSep ((Rd xs ws).duties (kcell c x) 0 \ ∅) (fun d => (Rd xs ws).payload (kcell c x) 0 d)) -∗ wpc c (K ⟨⟩) Q)
        -∗ wpc c (.op w K) Q) := by
  unfold debt
  iintro ⟨#HK, Hat, Hc, ⟨%W, HO⟩⟩ Hk
  ihave #Hx := (known_at xs ws c x) $$ HK
  icases Hx with ⟨⟨%κ, #HI⟩, -⟩
  iapply (Rounds.wp_wait_rest_token 𝒱₀ ER (Rd xs ws) (c : Thread nD τ) none (κ := κ) hw (Set.mem_univ _) () (O := owesOf c l)
    (W := W) (R := 0) (m := 0) (T := ∅) (by rw [Nat.zero_add]; exact hn.symm)) $$ [Hc HO Hat]
  · isplitr; · iexact HI
    isplitl [Hc]; · iexact Hc
    isplitl [HO]; · iexact HO
    isplitr
    · iapply (mayWait_of c (csem x) (lvl x) (le_of_eq (lv_at c x ())) l ha); iapply known_levels; iexact HK
    iexact Hat
  iintro ⟨HO, Hat, -, Hp⟩
  imod (Rounds.cell_close ER (Rd xs ws) (Set.mem_univ κ) (fun h => h) (R := 0 + 1) (duties_later xs ws (kcell c x))) $$ [Hat] with Hz
  · isplitr; · iexact HI
    iexact Hat
  iapply Hk
  isplitl [Hz]; · iexact Hz
  isplitl [HO]; · iexists _; iexact HO
  iexact Hp

/-- A wait for a copy. -/
theorem wp_wait_copy (p : Fin 6) (k : Fin 4) (s : Fin 7) {sp sp' : Space} {sh sh' : Shape} {e e' : EltTy}
    {src : Memref sig .tc sp sh e} {dst : Memref sig .tc sp' sh' e'} {h₁ h₂} (hn : dst.view.dmaCredit = nb p)
    {K : PUnit → PR F} (ha : above (lvl (some (p, k, s))) l = true) :
    iprop(known xs ws ∗ waitR c (some (p, k, s)) ∗ debt c l)
      ⊢ iprop(((semVal (kcell c (some (p, k, s))) 0 ∗ debt c l ∗ pay xs ws c (some (p, k, s)) 0) -∗ wpc c (K ⟨⟩) Q)
        -∗ wpc c (.op (.waitDma2 (dsm p k s) src dst h₁ h₂) K) Q) := by
  rw [← rest_dma]
  unfold waitR
  iintro ⟨HK, ⟨Hat, Hc⟩, HO⟩
  iapply (wp_wait_all (xs := xs) (ws := ws) (some (p, k, s)) (nb p) (expect_dma xs ws c p k s)
    (fun K => (wpE_waitDma2_eq 𝒱₀ (c : Thread nD τ) none Set.univ K).trans (by rw [hn]; rfl)) ha)
  isplitl [HK]; · iexact HK
  isplitl [Hat]; · iexact Hat
  isplitl [Hc]; · iexact Hc
  iexact HO

/-- Short ledgers. -/
theorem led_nil : led xs ws c [] = iprop(emp) := rfl
theorem led_one (a : A) : led xs ws c [a] = ent xs ws c a := rfl
theorem led_two (a b : A) : led xs ws c [a, b] = iprop(ent xs ws c a ∗ ent xs ws c b) := rfl
theorem led_three (a b d : A) : led xs ws c [a, b, d] = iprop(ent xs ws c a ∗ ent xs ws c b ∗ ent xs ws c d) := rfl
theorem led_cons (a : A) (b : List A) : led xs ws c (a :: b) = iprop(ent xs ws c a ∗ led xs ws c b) := bigSepL_cons' _ _ _

/-! ## Waits -/

theorem step_wr {p : Fin 6} {s : Fin 7} {sp : Space} {sh : Shape} {e : EltTy} {src : Memref sig .tc sp sh e} {offr : Fin 2 → Nat} {inbr} {hur} {h₁ h₂}
    {K : PUnit → PR F} (hr : offr = offR s) (ha : above (lvl (some (p, 2, s))) l = true)
    (h : St xs ws c l [.got p s, .perm p s, .zSr p s] R ⊢ wpc c (K ⟨⟩) Q) :
    St xs ws c (.wr p s :: l) [.rS p s] R
      ⊢ wpc c (.op (.waitDma2 (sR p s) src ((rcvM p).slice (Rect.unit (s := SR p) offr (Sp p).size inbr) hur) h₁ h₂) K) Q := by
  subst hr
  refine on_debt ?_ h
  rw [led_one, led_three]; simp only [ent]
  iintro ⟨HK, Hw, HO⟩ Hk
  iapply (wp_wait_copy (xs := xs) (ws := ws) p 2 s (src := src) (nb_slot p s) ha) $$ [HK Hw HO]
  · isplitl [HK]; · iexact HK
    isplitl [Hw]; · iexact Hw
    iexact HO
  iintro ⟨Hz, HO, Hp⟩
  iapply Hk
  isplitr [HO]
  · ihave Hp := (show pay xs ws c (some (p, 2, s)) 0 ⊢ iprop(ow c (sM p s) fullShare (Xv xs ws p (stg s).val (c ^^^ mR p s) (kS p s)) ∗ owx (F := F) (c ^^^ mR p s) (oM p (c ^^^ kR p s))) from .rfl) $$ Hp
    icases Hp with ⟨Hg, Hp⟩
    isplitl [Hg]; · iexact Hg
    isplitl [Hp]; · iexact Hp
    iexact Hz
  · iexact HO

theorem step_wsr {p : Fin 6} {s : Fin 7} {sp : Space} {sh : Shape} {e : EltTy} {src : Memref sig .tc sp sh e} {off : Fin 2 → Nat} {inb} {hu} {h₁ h₂}
    {K : PUnit → PR F} (ha : above (lvl (some (p, 0, s))) l = true)
    (h : St xs ws c l [.zSs p s] R ⊢ wpc c (K ⟨⟩) Q) :
    St xs ws c (.wsr p s :: l) [.wS p s] R
      ⊢ wpc c (.op (.waitDma2 (sS p s) src (outM.slice (Rect.unit (s := S2048x2048) off (Sp p).size inb) hu) h₁ h₂) K) Q := by
  refine on_debt ?_ h
  rw [led_one, led_one]; simp only [ent]
  iintro ⟨HK, Hw, HO⟩ Hk
  iapply (wp_wait_copy (xs := xs) (ws := ws) p 0 s (src := src)
    (show (outM.slice (Rect.unit (s := S2048x2048) off (Sp p).size inb) hu : Memref sig .tc .vmem (Sp p) .bf16).view.dmaCredit = nb p from rfl) ha) $$ [HK Hw HO]
  · isplitl [HK]; · iexact HK
    isplitl [Hw]; · iexact Hw
    iexact HO
  iintro ⟨Hz, HO, -⟩
  iapply Hk
  isplitl [Hz]; · iexact Hz
  iexact HO

theorem step_wsa {p : Fin 6} {s : Fin 7} {sp : Space} {sh : Shape} {e : EltTy} {src : Memref sig .tc sp sh e} {off : Fin 2 → Nat} {inb} {hu} {h₁ h₂}
    {K : PUnit → PR F} (ha : above (lvl (some (p, 1, s))) l = true)
    (h : St xs ws c l [.zAs p s, .fin p (kA p s) (qs s)] R ⊢ wpc c (K ⟨⟩) Q) :
    St xs ws c (.wsa p s :: l) [.wA p s] R
      ⊢ wpc c (.op (.waitDma2 (aS p s) src (outM.slice (Rect.unit (s := S2048x2048) off (Sp p).size inb) hu) h₁ h₂) K) Q := by
  refine on_debt ?_ h
  rw [led_one, led_two]; simp only [ent]
  iintro ⟨HK, Hw, HO⟩ Hk
  iapply (wp_wait_copy (xs := xs) (ws := ws) p 1 s (src := src)
    (show (outM.slice (Rect.unit (s := S2048x2048) off (Sp p).size inb) hu : Memref sig .tc .vmem (Sp p) .bf16).view.dmaCredit = nb p from rfl) ha) $$ [HK Hw HO]
  · isplitl [HK]; · iexact HK
    isplitl [Hw]; · iexact Hw
    iexact HO
  iintro ⟨Hz, HO, Hp⟩
  iapply Hk
  isplitr [HO]
  · isplitl [Hz]; · iexact Hz
    iapply (show pay xs ws c (some (p, 1, s)) 0 ⊢ ow c (oM p (c ^^^ kA p s)) (shq (qs s)) (Yv xs ws p (c ^^^ kA p s)) from .rfl); iexact Hp
  iexact HO

/-- The block a gather's copy brings, in its shares. -/
theorem arrived (p : Fin 6) (h : Fin 7) : pay xs ws c (some (p, 3, h)) 0 ⊢ led xs ws c (rsh p h) := by
  have e : pay xs ws c (some (p, 3, h)) 0 = gathPay xs ws c p h := rfl
  rw [e]
  fin_cases h <;> unfold gathPay led rsh
  · dsimp only [Fin.zero_eta]
    rw [bigSepL_cons_cons, bigSepL_singleton]
    exact (owns_halves (c := (c : Thread nD τ)) (m := oM p (c ^^^ kB p 0)) (q := fullShare) (Yv xs ws p (c ^^^ kB p 0))).1
  all_goals exact Entails.of_eq rfl

theorem step_wa {p : Fin 6} {s : Fin 7} {sp : Space} {sh : Shape} {e : EltTy} {src : Memref sig .tc sp sh e} {off : Fin 2 → Nat} {inb} {hu} {h₁ h₂}
    {K : PUnit → PR F} (ha : above (lvl (some (p, 3, s))) l = true)
    (h : St xs ws c l (.zAr p s :: rsh p s) R ⊢ wpc c (K ⟨⟩) Q) :
    St xs ws c (.wa p s :: l) [.rA p s] R
      ⊢ wpc c (.op (.waitDma2 (aR p s) src (outM.slice (Rect.unit (s := S2048x2048) off (Sp p).size inb) hu) h₁ h₂) K) Q := by
  refine on_debt ?_ h
  rw [led_one, led_cons]; simp only [ent]
  iintro ⟨HK, Hw, HO⟩ Hk
  iapply (wp_wait_copy (xs := xs) (ws := ws) p 3 s (src := src)
    (show (outM.slice (Rect.unit (s := S2048x2048) off (Sp p).size inb) hu : Memref sig .tc .vmem (Sp p) .bf16).view.dmaCredit = nb p from rfl) ha) $$ [HK Hw HO]
  · isplitl [HK]; · iexact HK
    isplitl [Hw]; · iexact Hw
    iexact HO
  iintro ⟨Hz, HO, Hp⟩
  iapply Hk
  isplitr [HO]
  · isplitl [Hz]; · iexact Hz
    iapply (arrived (xs := xs) (ws := ws) (c := c) p s); iexact Hp
  iexact HO

/-! ## The barrier -/

theorem slot_there (x : Fin 6 × Fin 7) :
    iprop((if mR x.1 x.2 = PM 0 then owx (F := F) (c ^^^ PM 0) (sM x.1 x.2) else iprop(emp))
      ∗ (if mR x.1 x.2 = PM 1 then owx (F := F) (c ^^^ PM 1) (sM x.1 x.2) else iprop(emp))
      ∗ (if mR x.1 x.2 = PM 2 then owx (F := F) (c ^^^ PM 2) (sM x.1 x.2) else iprop(emp)))
      ⊢ owx (F := F) (c ^^^ mR x.1 x.2) (sM x.1 x.2) := by
  have hx : mR x.1 x.2 = PM 0 ∨ mR x.1 x.2 = PM 1 ∨ mR x.1 x.2 = PM 2 := by revert x; decide
  rcases hx with hx | hx | hx
  · rw [if_pos hx, hx]; iintro ⟨H, -, -⟩; iexact H
  · rw [if_pos hx, hx]; iintro ⟨-, H, -⟩; iexact H
  · rw [if_pos hx, hx]; iintro ⟨-, -, H⟩; iexact H

/-- The three signals bring every slot the device sends to. -/
theorem slots_there : iprop(barPay (F := F) c 0 ∗ barPay c 1 ∗ barPay c 2) ⊢ led xs ws c (all42 .loc) := by
  have hl : all42 .loc = (parts.flatMap fun p => sl7.map fun s => (p, s)).map fun x => A.loc x.1 x.2 := by decide
  rw [hl, led, bigSepL_map, ← bigSep_univ_eq_bigSepL _ (by decide) (by decide)]
  unfold barPay
  rw [← bigSep_sep', ← bigSep_sep']
  exact bigSep_mono fun x _ => slot_there x

theorem step_bw {K : PUnit → PR F} (ha : above (lvl none) l = true)
    (h : St xs ws c l (.zB :: all42 .loc) R ⊢ wpc c (K ⟨⟩) Q) :
    St xs ws c (.bw :: l) [.rB] R ⊢ wpc c (.op (.semWait barS 3) K) Q := by
  refine on_debt ?_ h
  rw [led_one, led_cons, ent, ent]
  iintro ⟨HK, ⟨Hat, Hc⟩, HO⟩ Hk
  iapply (wp_wait_all (xs := xs) (ws := ws) none 3 (expect_bar xs ws c)
    (wpE_semWait_eq 𝒱₀ (c : Thread nD τ) none Set.univ) ha) $$ [HK Hat Hc HO]
  · isplitl [HK]; · iexact HK
    isplitl [Hat]; · iexact Hat
    isplitl [Hc]; · iexact Hc
    iexact HO
  rw [rest_bar]
  iintro ⟨Hz, HO, Hp⟩
  iapply Hk
  isplitr [HO]
  · isplitl [Hz]; · iexact Hz
    iapply (slots_there (xs := xs) (ws := ws) (c := c)); iexact Hp
  iexact HO

theorem step_sg {m : Fin 8} {K : PUnit → PR F} (h : St xs ws c l [] R ⊢ wpc c (K ⟨⟩) Q) :
    St xs ws c (.sg m :: l) [.tB m] R ⊢ wpc c (.op (.semSignal (Dev.tc (c ^^^ m)) barS 1) K) Q := by
  refine on_debt ?_ h
  unfold debt; rw [led_one, led_nil, ent]
  iintro ⟨HK, ⟨Ht, Hp⟩, ⟨%W, HO⟩⟩ Hk
  ihave Hx := (known_at xs ws (c ^^^ m) none) $$ HK
  icases Hx with ⟨⟨%κ, HI⟩, Hr⟩
  iapply (Rounds.wp_signal 𝒱₀ ER (Rd xs ws) (c : Thread nD τ) none (dst := ((c ^^^ m : Dev nD) : Thread nD τ)) (κ := κ)
    (d := nbr m) (show nbr m ∈ (Rd xs ws).duties (kcell (c ^^^ m) none) 0 by rw [duties_bar]; exact Finset.mem_univ _) ((amount_at xs ws (c ^^^ m) none (nbr m)).trans (by decide)) () (owesOf c l) rfl)
    $$ [HI HO Ht Hp Hr]
  · isplitl [HI]; · iexact HI
    isplitl [HO]; · iexact HO
    isplitl [Ht]; · iexact Ht
    isplitl [Hp]
    · iapply (show barPay (F := F) (c ^^^ m) (nbr m) ⊢ (Rd xs ws).payload (((c ^^^ m : Dev nD) : Thread nD τ), SemLoc.reg barS) 0 (nbr m)
        from Entails.of_eq (payload_at xs ws (c ^^^ m) none (nbr m)).symm); iexact Hp
    iexact Hr
  iintro HO
  iapply Hk
  isplitr [HO]; · iempintro
  iexists W; iexact HO

/-! ## Copies -/

theorem xor_back (c : Dev nD) (m : Fin 8) : (c ^^^ m) ^^^ m = c := by revert c m; decide
theorem xor_key (c : Dev nD) (m k : Fin 8) : (c ^^^ m) ^^^ (k ^^^ m) = c ^^^ k := by revert c m k; decide

theorem step_sr {p : Fin 6} {s : Fin 7} {hsc h₁ h₂ h₃} {K : PUnit → PR F} (h : St xs ws c l [.wS p s] R ⊢ wpc c (K ⟨⟩) Q) :
    St xs ws c (.sr p s :: l) [.tS p s, .blk p (kS p s) (stg s).val, .loc p s] R
      ⊢ wpc c (.op (.enqueueDma (oM p (c ^^^ kS p s)) (.remote (Dev.tc (c ^^^ mR p s)) (sM p s) (.dma (sS p s)) hsc) (.dma (sR p s)) h₁ h₂ h₃) K) Q := by
  refine on_debt ?_ h
  unfold debt; rw [led_one, led_three, ent, ent, ent, ent]
  unfold sendR owx ow owns
  iintro ⟨#HK, ⟨⟨Ht1, Ht2, Hat⟩, ⟨%fs, %hfs, Hs⟩, ⟨%Y, %fd, -, Hd⟩⟩, ⟨%W, HO⟩⟩ Hk
  ihave #Hx := (known_at xs ws c (some (p, 0, s))) $$ HK
  icases Hx with ⟨⟨%κ₁, #HI1⟩, #Hr1⟩
  ihave #Hy := (known_at xs ws (c ^^^ mR p s) (some (p, 2, s))) $$ HK
  icases Hy with ⟨⟨%κ₂, #HI2⟩, #Hr2⟩
  iapply (Rounds.wp_send_landing_pointsTo 𝒱₀ ER (Rd xs ws) (c : Thread nD τ) none (c' := ((c ^^^ mR p s : Dev nD) : Thread nD τ))
    (src := oM p (c ^^^ kS p s)) (dst := sM p s) (sS := .dma (sS p s)) (sem := .dma (sR p s)) (κ₁ := κ₁) (κ₂ := κ₂)
    (r₁ := 0) (r₂ := 0) (d₁ := 0) (d₂ := 0) (fd := fd) (fs := fs)
    (show (0 : Fin 3) ∈ (Rd xs ws).duties (kcell c (some (p, 0, s))) 0 by rw [duties_dma]; exact Finset.mem_singleton_self _)
    (show (0 : Fin 3) ∈ (Rd xs ws).duties (kcell (c ^^^ mR p s) (some (p, 2, s))) 0 by rw [duties_dma]; exact Finset.mem_singleton_self _)
    () () (nb p) (show (sM p s).view.amount (.dma (sR p s)) = nb p from nb_slot p s) (amount_at xs ws c (some (p, 0, s)) 0) (amount_at xs ws (c ^^^ mR p s) (some (p, 2, s)) 0) (owesOf c l) rfl (W := W)
    (Entails.of_eq (payload_at xs ws c (some (p, 0, s)) 0).symm)
    (by
      refine .trans ?_ (Entails.of_eq (payload_at xs ws (c ^^^ mR p s) (some (p, 2, s)) 0).symm)
      show _ ⊢ recvPay xs ws (c ^^^ mR p s) p s
      unfold recvPay
      rw [xor_back, kR, xor_key, ← hfs]
      iintro ⟨Hd, Hs⟩
      isplitl [Hd]
      · ihave H := (owns_intro ((c ^^^ mR p s : Dev nD) : Thread nD τ) (sM p s) fullShare _) $$ Hd
        rw [View.read_write_univ]
        iexact H
      · iexists _
        iapply (owns_intro (c : Thread nD τ) (oM p (c ^^^ kS p s)) fullShare fs); iexact Hs)) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · unfold waitR
    isplitl [Hat]; · iexact Hat
    iexact Hc
  iexists W; iexact HO

theorem step_sa {p : Fin 6} {s : Fin 7} {hsc h₁ h₂ h₃} {K : PUnit → PR F} (h : St xs ws c l [.wA p s] R ⊢ wpc c (K ⟨⟩) Q) :
    St xs ws c (.sa p s :: l) [.tA p s, .fin p (kA p s) (qs s), .perm p (rv p s)] R
      ⊢ wpc c (.op (.enqueueDma (oM p (c ^^^ kA p s)) (.remote (Dev.tc (c ^^^ mA p s)) (oM p (c ^^^ kA p s)) (.dma (aS p s)) hsc) (.dma (aR p s)) h₁ h₂ h₃) K) Q := by
  refine on_debt ?_ h
  unfold debt; rw [led_one, led_three, ent, ent, ent, ent, kR_rv, mR_rv]
  unfold sendR owx ow owns
  iintro ⟨#HK, ⟨⟨Ht1, Ht2, Hat⟩, ⟨%fs, %hfs, Hs⟩, ⟨%Y, %fd, -, Hd⟩⟩, ⟨%W, HO⟩⟩ Hk
  ihave #Hx := (known_at xs ws c (some (p, 1, s))) $$ HK
  icases Hx with ⟨⟨%κ₁, #HI1⟩, #Hr1⟩
  ihave #Hy := (known_at xs ws (c ^^^ mA p s) (some (p, 3, s))) $$ HK
  icases Hy with ⟨⟨%κ₂, #HI2⟩, #Hr2⟩
  iapply (Rounds.wp_send_pointsTo 𝒱₀ ER (Rd xs ws) (c : Thread nD τ) none (c' := ((c ^^^ mA p s : Dev nD) : Thread nD τ))
    (src := oM p (c ^^^ kA p s)) (dst := oM p (c ^^^ kA p s)) (sS := .dma (aS p s)) (sem := .dma (aR p s)) (κ₁ := κ₁) (κ₂ := κ₂)
    (r₁ := 0) (r₂ := 0) (d₁ := 0) (d₂ := 0) (fd := fd) (fs := fs)
    (show (0 : Fin 3) ∈ (Rd xs ws).duties (kcell c (some (p, 1, s))) 0 by rw [duties_dma]; exact Finset.mem_singleton_self _)
    (show (0 : Fin 3) ∈ (Rd xs ws).duties (kcell (c ^^^ mA p s) (some (p, 3, s))) 0 by rw [duties_dma]; exact Finset.mem_singleton_self _)
    () () (nb p) (show (oM p (c ^^^ kA p s)).view.amount (.dma (aR p s)) = nb p from rfl) (amount_at xs ws c (some (p, 1, s)) 0) (amount_at xs ws (c ^^^ mA p s) (some (p, 3, s)) 0) (owesOf c l) rfl (W := W)
    (by
      refine .trans ?_ (Entails.of_eq (payload_at xs ws c (some (p, 1, s)) 0).symm)
      show _ ⊢ backPay xs ws c p s
      unfold backPay
      rw [← hfs]
      exact owns_intro (c : Thread nD τ) (oM p (c ^^^ kA p s)) _ fs)
    (by
      refine .trans ?_ (Entails.of_eq (payload_at xs ws (c ^^^ mA p s) (some (p, 3, s)) 0).symm)
      show _ ⊢ gathPay xs ws (c ^^^ mA p s) p s
      unfold gathPay
      rw [kB, xor_key, ← hfs]
      refine (owns_intro ((c ^^^ mA p s : Dev nD) : Thread nD τ) (oM p (c ^^^ kA p s)) fullShare _).trans ?_
      rw [View.read_write_univ])) $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitr [HO]
  · unfold waitR
    isplitl [Hat]; · iexact Hat
    iexact Hc
  iexists W; iexact HO

end Cert.KProof

end
-- ==== Proof.Ends.lean ====
/- What a device is given at the launch makes its first ledger, and its last ledger what it gives back. -/
module

public import proofs.«01_k».proof.Proof.Comm

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

/-! ## Families -/

/-- The semaphores of a device that are paid by copies, by kind. -/
def kinds : Fin 4 × (Fin 6 × Fin 7) ≃ Fin 6 × Fin 4 × Fin 7 where
  toFun y := (y.2.1, y.1, y.2.2)
  invFun x := (x.2.1, (x.1, x.2.2))
  left_inv _ := rfl
  right_inv _ := rfl
theorem by_kind (Φ : Fin 6 × Fin 4 × Fin 7 → sProp 𝕄) : bigSep Finset.univ Φ
    = iprop((bigSep Finset.univ fun x : Fin 6 × Fin 7 => Φ (x.1, 0, x.2)) ∗ (bigSep Finset.univ fun x : Fin 6 × Fin 7 => Φ (x.1, 1, x.2))
      ∗ (bigSep Finset.univ fun x : Fin 6 × Fin 7 => Φ (x.1, 2, x.2)) ∗ (bigSep Finset.univ fun x : Fin 6 × Fin 7 => Φ (x.1, 3, x.2))) := by
  rw [bigSep_univ_equiv kinds Φ, bigSep_univ_prod, bigSep_univ_eq_bigSepL [0, 1, 2, 3] (by decide) (by decide)]
  rfl
theorem by_none (Φ : CI → sProp 𝕄) : bigSep Finset.univ Φ
    = iprop(Φ none ∗ bigSep Finset.univ fun x : Fin 6 × Fin 4 × Fin 7 => Φ (some x)) := by
  rw [bigSep_univ_equiv (Equiv.optionEquivSumPUnit.{0} (Fin 6 × Fin 4 × Fin 7)).symm Φ, bigSep_univ_sum, bigSep_univ_of_subsingleton PUnit.unit]
  exact BI.equiv_iff.mp ⟨BI.sep_comm, BI.sep_comm⟩
theorem by_three (Φ : Fin 3 → sProp 𝕄) : bigSep Finset.univ Φ = iprop(Φ 0 ∗ Φ 1 ∗ Φ 2) :=
  bigSep_univ_eq_bigSepL [0, 1, 2] (by decide) (by decide) Φ
theorem by_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The other device under a mask; the other key. -/
def flip (m : Fin 8) : Fin 8 ≃ Fin 8 where
  toFun c := c ^^^ m
  invFun c := c ^^^ m
  left_inv c := xor_back c m
  right_inv c := xor_back c m
theorem xor_key' (c k : Fin 8) : c ^^^ (c ^^^ k) = k := by revert c k; decide
def rel (c : Fin 8) : Fin 8 ≃ Fin 8 where
  toFun k := c ^^^ k
  invFun k := c ^^^ k
  left_inv k := xor_key' c k
  right_inv k := xor_key' c k

/-- Values given on the members of a disjoint family of rectangles are those of one function. -/
theorem glue {sh : Shape} {T : Type} (r : T → Rect sh) (hd : ∀ t t', t ≠ t' → Disjoint (r t).set (r t').set) {V : Type} [Nonempty V]
    (Y : ∀ t, (r t).shape.Idx → V) : ∃ X : sh.Idx → V, ∀ t j, X ((r t).emb j) = Y t j := by
  have he : Function.Injective fun x : (Σ t, (r t).shape.Idx) => (r x.1).emb x.2 := by
    rintro ⟨t, j⟩ ⟨t', j'⟩ h
    have h' : (r t).emb j = (r t').emb j' := h
    have hm (t) (j : (r t).shape.Idx) : (r t).emb j ∈ (r t).set := by
      rw [← Rect.map_emb_univ]; exact Finset.mem_map_of_mem _ (Finset.mem_univ j)
    by_cases ht : t = t'
    · subst ht
      rw [(r t).emb.injective h']
    · exact absurd (h' ▸ hm t j) (Finset.disjoint_right.mp (hd t t' ht) (hm t' j'))
  exact ⟨Function.extend (fun x : (Σ t, (r t).shape.Idx) => (r x.1).emb x.2) (fun x => Y x.1 x.2) (fun _ => Classical.arbitrary V), fun t j => he.extend_apply _ _ ⟨t, j⟩⟩
theorem nonempty_bf16 : Nonempty (Elt F .bf16) := Elt.nonempty F .bf16

variable (xs : Dev nD → S2048x256.Idx → Elt F .bf16) (ws : Dev nD → S256x2048.Idx → Elt F .bf16)

theorem led_all (c : Dev nD) (f : Fin 6 → Fin 7 → A) :
    led xs ws c (all42 f) = bigSep Finset.univ fun x : Fin 6 × Fin 7 => ent xs ws c (f x.1 x.2) := by
  have h : all42 f = (parts.flatMap fun p => sl7.map fun s => (p, s)).map fun x => f x.1 x.2 := rfl
  rw [h, led, bigSepL_map, ← bigSep_univ_eq_bigSepL _ (by decide) (by decide)]
theorem led_flat {T : Type} (c : Dev nD) (f : T → List A) : ∀ l : List T, led xs ws c (l.flatMap f) = bigSepL l fun t => led xs ws c (f t)
  | [] => rfl
  | t :: l => by rw [List.flatMap_cons, led, bigSepL_append, bigSepL_cons', ← led_flat c f l]
theorem led_parts (c : Dev nD) (f : Fin 6 → List A) : led xs ws c (parts.flatMap f) = bigSep Finset.univ fun p => led xs ws c (f p) := by
  rw [led_flat, ← bigSep_univ_eq_bigSepL _ (by decide) (by decide)]

/-! ## The start -/

/-- The device on which a copy's token of each kind is used, seen from the device that uses it. -/
def peer (c : Dev nD) : Fin 6 × Fin 4 × Fin 7 → Dev nD
  | (p, 2, s) => c ^^^ mR p s
  | (p, 3, h) => c ^^^ mA p h
  | _ => c

/-- The tokens of a device's own semaphores; the tokens a device pays with. -/
def ownToks (c : Dev nD) : sProp 𝕄 :=
  iprop((bigSep Finset.univ fun d : Fin 3 => dutyTok ER (kcell c none) 0 d)
    ∗ bigSep Finset.univ fun x : Fin 6 × Fin 4 × Fin 7 => dutyTok ER (kcell c (some x)) 0 0)
def payToks (c : Dev nD) : sProp 𝕄 :=
  iprop((bigSep Finset.univ fun d : Fin 3 => dutyTok ER (kcell (c ^^^ PM d) none) 0 d)
    ∗ bigSep Finset.univ fun x : Fin 6 × Fin 4 × Fin 7 => dutyTok ER (kcell (peer c x) (some x)) 0 0)

/-- Every token goes to the device that pays with it. -/
theorem toks_around : (bigSep Finset.univ fun c : Dev nD => (ownToks c : sProp 𝕄)) = bigSep Finset.univ fun c : Dev nD => payToks c := by
  have hx (x : Fin 6 × Fin 4 × Fin 7) : (bigSep Finset.univ fun c : Dev nD => (dutyTok ER (kcell c (some x)) 0 0 : sProp 𝕄))
      = bigSep Finset.univ fun c : Dev nD => dutyTok ER (kcell (peer c x) (some x)) 0 0 := by
    obtain ⟨p, k, s⟩ := x
    have hk : k = 0 ∨ k = 1 ∨ k = 2 ∨ k = 3 := by revert k; decide
    rcases hk with rfl | rfl | rfl | rfl
    · rfl
    · rfl
    · exact bigSep_univ_equiv (flip (mR p s)) _
    · exact bigSep_univ_equiv (flip (mA p s)) _
  unfold ownToks payToks
  rw [bigSep_sep', bigSep_sep', bigSep_univ_comm, bigSep_univ_comm (fun (c : Dev nD) (x : Fin 6 × Fin 4 × Fin 7) => (dutyTok ER (kcell c (some x)) 0 0 : sProp 𝕄)),
    bigSep_univ_comm (fun (c : Dev nD) (d : Fin 3) => (dutyTok ER (kcell (c ^^^ PM d) none) 0 d : sProp 𝕄)),
    bigSep_univ_comm (fun (c : Dev nD) (x : Fin 6 × Fin 4 × Fin 7) => (dutyTok ER (kcell (peer c x) (some x)) 0 0 : sProp 𝕄)),
    bigSep_congr fun d _ => bigSep_univ_equiv (flip (PM d)) (fun c : Dev nD => (dutyTok ER (kcell c none) 0 d : sProp 𝕄)),
    bigSep_congr fun x _ => hx x]
  rfl

/-- What a device's positions, credits and buffers are at the start. -/
def positions (c : Dev nD) : sProp 𝕄 := bigSep Finset.univ fun x : CI => atPos ER (kcell c x) 0 ∅ 0
def credits (c : Dev nD) : sProp 𝕄 :=
  iprop(cred (tallyAt (kcell c none) () 3)
    ∗ (bigSep Finset.univ fun x : Fin 6 × Fin 7 => cred (tallyAt (kcell c (some (x.1, 2, x.2))) () (nb x.1)))
    ∗ (bigSep Finset.univ fun x : Fin 6 × Fin 7 => cred (tallyAt (kcell c (some (x.1, 3, x.2))) () (nb x.1))))
def slots (c : Dev nD) : sProp 𝕄 := bigSep Finset.univ fun p : Fin 6 => owx (F := F) c (rcvM p)

theorem forget (c : Dev nD) {sh : Shape} (m : Memref sig .tc .vmem sh .bf16) (X : Vec F sh .bf16) : ow c m fullShare X ⊢ owx (F := F) c m := by
  iintro H; iexists X; iexact H

/-- The receive buffers cut in slots. -/
theorem cut_slots (c : Dev nD) : slots (F := F) c ⊢ bigSep Finset.univ fun x : Fin 6 × Fin 7 => owx (F := F) c (sM x.1 x.2) := by
  unfold slots
  rw [bigSep_univ_prod]
  refine bigSep_mono fun p _ => show owx (F := F) c (rcvM p) ⊢ bigSep Finset.univ fun s : Fin 7 => owx (F := F) c (sM p s) from ?_
  iintro ⟨%X, H⟩
  ihave H := (owns_rects (c : Thread nD τ) (rcvM p) fullShare (rR p) (fun _ _ => rfl) (rR_disj p) (rR_cover p) X) $$ H
  iapply (show _ ⊢ (bigSep Finset.univ fun s : Fin 7 => owx (F := F) c (sM p s)) from bigSep_mono fun s _ => forget c (sM p s) _) $$ H
theorem slot_away (c : Dev nD) (x : Fin 6 × Fin 7) : owx (F := F) c (sM x.1 x.2)
    ⊢ iprop((if mR x.1 x.2 = PM 0 then owx (F := F) ((c ^^^ PM 0) ^^^ PM 0) (sM x.1 x.2) else iprop(emp))
      ∗ (if mR x.1 x.2 = PM 1 then owx (F := F) ((c ^^^ PM 1) ^^^ PM 1) (sM x.1 x.2) else iprop(emp))
      ∗ (if mR x.1 x.2 = PM 2 then owx (F := F) ((c ^^^ PM 2) ^^^ PM 2) (sM x.1 x.2) else iprop(emp))) := by
  rw [xor_back, xor_back, xor_back]
  have hx : mR x.1 x.2 = PM 0 ∨ mR x.1 x.2 = PM 1 ∨ mR x.1 x.2 = PM 2 := by revert x; decide
  rcases hx with hx | hx | hx
  · rw [if_pos hx, if_neg (by rw [hx]; decide), if_neg (by rw [hx]; decide)]
    iintro H; isplitl [H]; · iexact H
    isplitr <;> iempintro
  · rw [if_neg (by rw [hx]; decide), if_pos hx, if_neg (by rw [hx]; decide)]
    iintro H; isplitr; · iempintro
    isplitl [H]; · iexact H
    iempintro
  · rw [if_neg (by rw [hx]; decide), if_neg (by rw [hx]; decide), if_pos hx]
    iintro H; isplitr; · iempintro
    isplitr; · iempintro
    iexact H
/-- A device's slots go with its three signals. -/
theorem slots_away (c : Dev nD) : slots (F := F) c ⊢ iprop(barPay (F := F) (c ^^^ PM 0) 0 ∗ barPay (c ^^^ PM 1) 1 ∗ barPay (c ^^^ PM 2) 2) := by
  refine (cut_slots c).trans ?_
  unfold barPay
  rw [← bigSep_sep', ← bigSep_sep']
  exact bigSep_mono fun x _ => slot_away c x

/-- The result cut in the chunks of the bands. -/
theorem cut_out (c : Dev nD) : owx (F := F) c outM ⊢ led xs ws c (bands.flatMap fun i => ks8.map (.raw i)) := by
  have h : (bands.flatMap fun i => ks8.map (A.raw i)) = (bands.flatMap fun i => ks8.map fun k => (i, k)).map fun x => A.raw x.1 x.2 := rfl
  rw [h, led, bigSepL_map, ← bigSep_univ_eq_bigSepL _ (by decide) (by decide)]
  iintro ⟨%X, H⟩
  ihave H := (owns_rects (c : Thread nD τ) outM fullShare (fun t : Fin 3 × Fin 8 => rC t.1 t.2) (fun _ _ => rfl) rC_disj rC_cover X) $$ H
  iapply (show _ ⊢ (bigSep Finset.univ fun t : Fin 3 × Fin 8 => owx (F := F) c (cM t.1 (c ^^^ t.2))) from ?_) $$ H
  refine .trans (bigSep_mono fun t _ => forget c (cM t.1 t.2) _) ?_
  rw [bigSep_univ_prod, bigSep_univ_prod]
  exact bigSep_mono fun i _ => Entails.of_eq (bigSep_univ_equiv (rel c) fun a => owx (F := F) c (cM i a))

/-- The rights to send and to wait. -/
theorem rights (c : Dev nD) : iprop(positions c ∗ (bigSep Finset.univ fun x : Fin 6 × Fin 4 × Fin 7 => dutyTok ER (kcell (peer c x) (some x)) 0 0)
      ∗ (bigSep Finset.univ fun x : Fin 6 × Fin 7 => cred (tallyAt (kcell c (some (x.1, 2, x.2))) () (nb x.1)))
      ∗ (bigSep Finset.univ fun x : Fin 6 × Fin 7 => cred (tallyAt (kcell c (some (x.1, 3, x.2))) () (nb x.1))))
    ⊢ iprop(atPos ER (kcell c none) 0 ∅ 0 ∗ led xs ws c (all42 .tS) ∗ led xs ws c (all42 .tA) ∗ led xs ws c (all42 .rS) ∗ led xs ws c (all42 .rA)) := by
  rw [led_all, led_all, led_all, led_all, positions, by_none, by_kind, by_kind]
  simp only [ent, sendR, waitR, bigSep_sep']
  iintro ⟨⟨P, P0, P1, P2, P3⟩, ⟨T0, T1, T2, T3⟩, C2, C3⟩
  isplitl [P]; · iexact P
  isplitl [P0 T0 T2]
  · isplitl [T0]; · iexact T0
    isplitl [T2]; · iexact T2
    iexact P0
  isplitl [P1 T1 T3]
  · isplitl [T1]; · iexact T1
    isplitl [T3]; · iexact T3
    iexact P1
  isplitl [P2 C2]
  · isplitl [P2]; · iexact P2
    iexact C2
  isplitl [P3]; · iexact P3
  iexact C3

theorem led0_intro (c : Dev nD) : iprop(positions c ∗ payToks c ∗ credits c ∗ owx (F := F) c outM ∗ slots c) ⊢ led xs ws c led0 := by
  unfold led0 payToks credits
  simp only [bigSepL_append]
  rw [by_three]
  iintro ⟨HP, ⟨⟨T0, T1, T2⟩, HT⟩, ⟨HC, C2, C3⟩, HO, HS⟩
  ihave H := (rights xs ws c) $$ [HP HT C2 C3]
  · isplitl [HP]; · iexact HP
    isplitl [HT]; · iexact HT
    isplitl [C2]; · iexact C2
    iexact C3
  icases H with ⟨P, S, A, RS, RA⟩
  ihave H := (slots_away c) $$ HS
  icases H with ⟨B0, B1, B2⟩
  isplitr [RA]; swap; · iexact RA
  isplitr [RS]; swap; · iexact RS
  isplitr [A]; swap; · iexact A
  isplitr [S]; swap; · iexact S
  isplitr [HO]; swap; · iapply (cut_out xs ws c); iexact HO
  iapply (show iprop((dutyTok ER (kcell (c ^^^ PM 0) none) 0 0 ∗ barPay (F := F) (c ^^^ PM 0) 0) ∗ (dutyTok ER (kcell (c ^^^ PM 1) none) 0 1 ∗ barPay (F := F) (c ^^^ PM 1) 1)
      ∗ (dutyTok ER (kcell (c ^^^ PM 2) none) 0 2 ∗ barPay (F := F) (c ^^^ PM 2) 2) ∗ (atPos ER (kcell c none) 0 ∅ 0 ∗ cred (tallyAt (kcell c none) () 3)))
    ⊢ led xs ws c [.tB 1, .tB 3, .tB 4, .rB] from .rfl)
  isplitl [T0 B0]
  · isplitl [T0]; · iexact T0
    iexact B0
  isplitl [T1 B1]
  · isplitl [T1]; · iexact T1
    iexact B1
  isplitl [T2 B2]
  · isplitl [T2]; · iexact T2
    iexact B2
  isplitl [P]; · iexact P
  iexact HC

/-! ## The end -/

/-- The contents of the result: every part of every chunk is the finished block. -/
theorem exists_out : ∃ X : S2048x2048.Idx → Elt F .bf16, ∀ (t : Fin 6 × Fin 8) (j : (Sp t.1).Idx), X ((rO t.1 t.2).emb j) = Yv xs ws t.1 t.2 j :=
  have := nonempty_bf16 (F := F)
  glue (fun t : Fin 6 × Fin 8 => rO t.1 t.2) rO_disj fun t => Yv xs ws t.1 t.2
def outV : S2048x2048.Idx → Elt F .bf16 := (exists_out xs ws).choose
theorem outV_at (p : Fin 6) (a : Fin 8) (j : (Sp p).Idx) : outV xs ws ((rO p a).emb j) = Yv xs ws p a j := (exists_out xs ws).choose_spec (p, a) j

/-- The shares of a part joined again. -/
theorem join_shares (c : Dev nD) (p : Fin 6) :
    led xs ws c (ledY p) ⊢ bigSep Finset.univ fun k : Fin 8 => ow c (oM p (c ^^^ k)) fullShare (Yv xs ws p (c ^^^ k)) := by
  have e := bigSep_univ_eq_bigSepL (0 :: kB p 0 :: [(1 : Fin 7), 2, 3, 4, 5, 6].map (kB p)) (by revert p; decide) (by revert p; decide)
    (fun k : Fin 8 => (ow c (oM p (c ^^^ k)) fullShare (Yv xs ws p (c ^^^ k)) : sProp 𝕄))
  rw [bigSepL_cons', bigSepL_cons', bigSepL_map] at e
  rw [e, ledY, led, bigSepL_append, bigSepL_map]
  have e2 : bigSepL [A.fin p 0 .l, .fin p 0 .rl, .fin p 0 .rr, .fin p (kB p 0) .l, .fin p (kB p 0) .r] (ent xs ws c)
    ⊢ (iprop(ow c (oM p (c ^^^ 0)) fullShare.left (Yv xs ws p (c ^^^ 0)) ∗ ow c (oM p (c ^^^ 0)) fullShare.right.left (Yv xs ws p (c ^^^ 0))
        ∗ ow c (oM p (c ^^^ 0)) fullShare.right.right (Yv xs ws p (c ^^^ 0))
        ∗ ow c (oM p (c ^^^ kB p 0)) fullShare.left (Yv xs ws p (c ^^^ kB p 0)) ∗ ow c (oM p (c ^^^ kB p 0)) fullShare.right (Yv xs ws p (c ^^^ kB p 0))) : sProp 𝕄) := .rfl
  iintro ⟨H, H6⟩
  ihave H := e2 $$ H
  icases H with ⟨H1, H2, H3, H4, H5⟩
  isplitl [H1 H2 H3]
  · iapply (owns_halves (c := (c : Thread nD τ)) (m := oM p (c ^^^ 0)) (q := fullShare) (Yv xs ws p (c ^^^ 0))).2
    isplitl [H1]; · iexact H1
    iapply (owns_halves (c := (c : Thread nD τ)) (m := oM p (c ^^^ 0)) (q := fullShare.right) (Yv xs ws p (c ^^^ 0))).2
    isplitl [H2]; · iexact H2
    iexact H3
  isplitl [H4 H5]
  · iapply (owns_halves (c := (c : Thread nD τ)) (m := oM p (c ^^^ kB p 0)) (q := fullShare) (Yv xs ws p (c ^^^ kB p 0))).2
    isplitl [H4]; · iexact H4
    iexact H5
  iexact H6

/-- The parts joined to the whole result. -/
theorem join_out (c : Dev nD) : led xs ws c (parts.flatMap ledY) ⊢ ow c outM fullShare (outV xs ws) := by
  rw [led_parts]
  refine (bigSep_mono fun p _ => join_shares xs ws c p).trans ?_
  refine .trans ?_ (owns_of_rects (c : Thread nD τ) outM fullShare (fun t : Fin 6 × Fin 8 => rO t.1 t.2) (fun _ _ => rfl) rO_disj rO_cover (outV xs ws))
  rw [bigSep_univ_prod]
  refine bigSep_mono fun p _ => (Entails.of_eq (bigSep_univ_equiv (rel c) fun a => (ow c (oM p a) fullShare (Yv xs ws p a) : sProp 𝕄)).symm).trans ?_
  refine bigSep_mono fun a _ => ?_
  rw [show (fun j => outV xs ws ((rO p a).emb j)) = Yv xs ws p a from funext fun j => outV_at xs ws p a j]
  exact BI.Entails.refl _

/-- The slots joined to the receive buffers. -/
theorem join_slots (c : Dev nD) : led xs ws c (all42 .got) ⊢ slots (F := F) c := by
  rw [led_all, bigSep_univ_prod]
  unfold slots
  refine bigSep_mono fun p _ => ?_
  have := nonempty_bf16 (F := F)
  obtain ⟨X, hX⟩ := glue (rR p) (rR_disj p) (V := Elt F .bf16) fun s => Xv xs ws p (stg s).val (c ^^^ mR p s) (kS p s)
  have e : (bigSep Finset.univ fun s : Fin 7 => ent xs ws c (.got p s))
      ⊢ (bigSep Finset.univ fun s : Fin 7 => ow c (sM p s) fullShare (fun j => X ((rR p s).emb j)) : sProp 𝕄) :=
    bigSep_mono fun s _ => Entails.of_eq (congrArg (fun X => (ow c (sM p s) fullShare X : sProp 𝕄)) (funext fun j => (hX s j).symm))
  refine e.trans ?_
  iintro H
  iexists X
  iapply (owns_of_rects (c : Thread nD τ) (rcvM p) fullShare (rR p) (fun _ _ => rfl) (rR_disj p) (rR_cover p) X); iexact H

theorem zeros (c : Dev nD) (f : Fin 6 → Fin 7 → A) (k : Fin 4) (h : ∀ p s, ent xs ws c (f p s) = semVal (kcell c (some (p, k, s))) 0) :
    led xs ws c (all42 f) = bigSep Finset.univ fun x : Fin 6 × Fin 7 => semVal (kcell c (some (x.1, k, x.2))) 0 := by
  rw [led_all]; exact bigSep_congr fun x _ => h x.1 x.2

theorem led1_elim (c : Dev nD) : led xs ws c led1 ⊢ iprop(ow c outM fullShare (outV xs ws) ∗ slots c
    ∗ semVal (kcell c none) 0 ∗ bigSep Finset.univ fun x : Fin 6 × Fin 4 × Fin 7 => semVal (kcell c (some x)) 0) := by
  unfold led1
  simp only [List.cons_append]
  rw [led_cons]
  simp only [bigSepL_append]
  rw [by_kind, ← zeros xs ws c .zSs 0 fun _ _ => rfl, ← zeros xs ws c .zAs 1 fun _ _ => rfl, ← zeros xs ws c .zSr 2 fun _ _ => rfl,
    ← zeros xs ws c .zAr 3 fun _ _ => rfl]
  iintro ⟨Z, ⟨⟨⟨⟨⟨HY, HG⟩, S0⟩, S2⟩, S1⟩, S3⟩⟩
  isplitl [HY]; · iapply (join_out xs ws c); iexact HY
  isplitl [HG]; · iapply (join_slots xs ws c); iexact HG
  isplitl [Z]; · iapply (show ent xs ws c .zB ⊢ semVal (kcell c none) 0 from .rfl); iexact Z
  isplitl [S0]; · iexact S0
  isplitl [S1]; · iexact S1
  isplitl [S2]; · iexact S2
  iexact S3

end Cert.KProof

end
-- ==== Proof.Match.lean ====
/- The printed body carries out the plan. -/
module

public import proofs.«01_k».proof.Proof.Prog

@[expose] public section

set_option maxHeartbeats 0

noncomputable section

namespace Cert.KProof

open Cert.KernelIdeal Cert.KernelIdeal.Gen
open Idealize.ShloMosaic Idealize.ShloMosaic.TcCoe
open Idealize.SL Idealize.SL.Sem

variable {F : FTy → Type} [FloatOps F]
variable (xs : Dev nD → S2048x256.Idx → Elt F .bf16) (ws : Dev nD → S256x2048.Idx → Elt F .bf16)

/-- The body on its operands. -/
def theBody : PR F :=
  cc0_body xM (Memref.isWhole_whole _) wM (Memref.isWhole_whole _) outM (Memref.isWhole_whole _)
    (Memref.whole cc0_scratch0) (Memref.isWhole_whole _) cc0_scratch1 cc0_scratch2
    (Memref.whole cc0_scratch3) (Memref.isWhole_whole _) cc0_scratch4 cc0_scratch5
    (Memref.whole cc0_scratch6) (Memref.isWhole_whole _) cc0_scratch7 cc0_scratch8
    (Memref.whole cc0_scratch9) (Memref.isWhole_whole _) cc0_scratch10 cc0_scratch11
    (Memref.whole cc0_scratch12) (Memref.isWhole_whole _) cc0_scratch13 cc0_scratch14
    (Memref.whole cc0_scratch15) (Memref.isWhole_whole _) cc0_scratch16 cc0_scratch17

set_option maxRecDepth 65536 in

/-- The printed body carries out the entry barrier and the plan. -/
theorem runs (c : Dev nD) : M xs ws c (entry ++ sched) (theBody (F := F)) := by
  rw [theBody, cc0_body_eq_skeleton]
  repeat
    first
    | refine .dev ?_
    | refine .sg (by revert c; decide +kernel) rfl rfl ?_
    | refine .bw rfl rfl ?_
    | refine .gx (by revert c; decide +kernel) ?_
    | refine .gw rfl ?_
    | refine .gd (by revert c; decide +kernel) fun _ => ?_
    | refine .gs (by revert c; decide +kernel) rfl ?_
    | refine .sr (by revert c; decide +kernel) (by decide +kernel) (by revert c; decide +kernel) rfl rfl ?_
    | refine .wr (by decide +kernel) rfl ?_
    | refine .wsr rfl ?_
    | refine .sa (by revert c; decide +kernel) (by revert c; decide +kernel) rfl rfl ?_
    | refine .wa rfl ?_
    | refine .wsa rfl ?_
    | refine .lo (by revert c; decide +kernel) ?_
    | refine .lr (by decide +kernel) ?_
    | refine .st (by revert c; decide +kernel) rfl ?_
    | refine .sy (by revert c; decide +kernel) rfl ?_
  exact .ret

end Cert.KProof

end
-- ==== Proof.Sound.lean ====
/- A program that carries out a list of instructions, started with a ledger on which the list runs, ends with the list's last ledger. -/
module

public import proofs.«01_k».proof.Proof.Comm
public import proofs.«01_k».proof.Proof.Match

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

variable {xs : Dev nD → S2048x256.Idx → Elt F .bf16} {ws : Dev nD → S256x2048.Idx → Elt F .bf16}
variable {c : Dev nD} {l : List I} {Q : PUnit → sProp (MT nD τ sig Unit (Elt F) ℕ UU ℕ)}

/-- One instruction on a whole ledger: it takes its entries, and leaves the others alone. -/
theorem enter {i : I} {bs fl : List A} {t : PR F} (he : exec (i :: l) bs = some fl)
    (h : ∀ r, exec l (post i ++ r) = some fl → St xs ws c (i :: l) (pre i) (led xs ws c r) ⊢ wpc c t Q) :
    St xs ws c (i :: l) bs iprop(emp) ⊢ wpc c t Q := by
  unfold exec at he
  cases ht : takes (pre i) bs with
  | none => rw [ht] at he; cases he
  | some r =>
    rw [ht] at he
    refine .trans ?_ (h r he)
    unfold St
    iintro ⟨HK, Hs, Hl, -, HO⟩
    ihave H := (led_takes xs ws c (pre i) bs r ht) $$ Hl
    icases H with ⟨H1, H2⟩
    isplitl [HK]; · iexact HK
    isplitl [Hs]; · iexact Hs
    isplitl [H1]; · iexact H1
    isplitl [H2]; · iexact H2
    iexact HO

/-- The entries an instruction leaves, put back with the others. -/
theorem leave {b r : List A} {t : PR F} (h : St xs ws c l (b ++ r) iprop(emp) ⊢ wpc c t Q) :
    St xs ws c l b (led xs ws c r) ⊢ wpc c t Q := by
  refine .trans ?_ h
  unfold St
  rw [led, led, led, bigSepL_append]
  iintro ⟨HK, Hs, H1, H2, HO⟩
  isplitl [HK]; · iexact HK
  isplitl [Hs]; · iexact Hs
  isplitl [H1 H2]
  · isplitl [H1]; · iexact H1
    iexact H2
  isplitr; · iempintro
  iexact HO

theorem orderly_tail {i : I} (h : orderly (i :: l) = true) : orderly l = true := by
  unfold orderly at h; exact (Bool.and_eq_true_iff.mp h).2
theorem above_tail {v : Nat} {i : I} (h : above v (i :: l) = true) : above v l = true := by
  unfold above at h ⊢; rw [List.all_cons] at h; exact (Bool.and_eq_true_iff.mp h).2

theorem sound {t : PR F} (hM : M xs ws c l t) : ∀ bs fl, exec l bs = some fl → orderly l = true → above 0 l = true →
    (St xs ws c [] fl iprop(emp) ⊢ Q ⟨⟩) → St xs ws c l bs iprop(emp) ⊢ wpc c t Q := by
  induction hM with
  | ret =>
    intro bs fl he _ _ hQ
    cases he
    exact hQ.trans (by unfold wpc; rw [wp_ret]; exact fupd_intro)
  | dev n ih => exact fun bs fl he ho ha hQ => enter he fun r hr => step_dev (leave (ih _ _ hr (orderly_tail ho) (above_tail ha) hQ))
  | sg hc hs hv n ih =>
    subst hc hs hv
    exact fun bs fl he ho ha hQ => enter he fun r hr => step_sg (leave (ih _ _ hr (orderly_tail ho) (above_tail ha) hQ))
  | bw hs hv n ih =>
    subst hs hv
    exact fun bs fl he ho ha hQ => enter he fun r hr => step_bw (Bool.and_eq_true_iff.mp ho).1 (leave (ih _ _ hr (orderly_tail ho) (above_tail ha) hQ))
  | gx h n ih =>
    subst h
    exact fun bs fl he ho ha hQ => enter he fun r hr => step_gx (leave (ih _ _ hr (orderly_tail ho) (above_tail ha) hQ))
  | gw h n ih =>
    subst h
    exact fun bs fl he ho ha hQ => enter he fun r hr => step_gw (leave (ih _ _ hr (orderly_tail ho) (above_tail ha) hQ))
  | gd h n ih =>
    subst h
    exact fun bs fl he ho ha hQ => enter he fun r hr => step_gd fun v => leave (ih v _ _ hr (orderly_tail ho) (above_tail ha) hQ)
  | gs h hw n ih =>
    subst h hw
    exact fun bs fl he ho ha hQ => enter he fun r hr => step_gs (leave (ih _ _ hr (orderly_tail ho) (above_tail ha) hQ))
  | sr h hr' hc h1 h2 n ih =>
    subst h hr' hc h1 h2
    exact fun bs fl he ho ha hQ => enter he fun r hr => step_sr (leave (ih _ _ hr (orderly_tail ho) (above_tail ha) hQ))
  | wr hr' h2 n ih =>
    subst h2
    exact fun bs fl he ho ha hQ => enter he fun r hr => step_wr hr' (Bool.and_eq_true_iff.mp ho).1 (leave (ih _ _ hr (orderly_tail ho) (above_tail ha) hQ))
  | wsr h1 n ih =>
    subst h1
    exact fun bs fl he ho ha hQ => enter he fun r hr => step_wsr (above_tail ha) (leave (ih _ _ hr (orderly_tail ho) (above_tail ha) hQ))
  | sa h hc h1 h2 n ih =>
    subst h hc h1 h2
    exact fun bs fl he ho ha hQ => enter he fun r hr => step_sa (leave (ih _ _ hr (orderly_tail ho) (above_tail ha) hQ))
  | wa h2 n ih =>
    subst h2
    exact fun bs fl he ho ha hQ => enter he fun r hr => step_wa (Bool.and_eq_true_iff.mp ho).1 (leave (ih _ _ hr (orderly_tail ho) (above_tail ha) hQ))
  | wsa h1 n ih =>
    subst h1
    exact fun bs fl he ho ha hQ => enter he fun r hr => step_wsa (above_tail ha) (leave (ih _ _ hr (orderly_tail ho) (above_tail ha) hQ))
  | lo h n ih =>
    subst h
    exact fun bs fl he ho ha hQ => enter he fun r hr => step_lo (leave (ih _ _ hr (orderly_tail ho) (above_tail ha) hQ))
  | lr h n ih =>
    subst h
    exact fun bs fl he ho ha hQ => enter he fun r hr => step_lr (leave (ih _ _ hr (orderly_tail ho) (above_tail ha) hQ))
  | st h hw n ih =>
    subst h
    exact fun bs fl he ho ha hQ => enter he fun r hr => step_st hw (leave (ih _ _ hr (orderly_tail ho) (above_tail ha) hQ))
  | sy h hw n ih =>
    subst h
    exact fun bs fl he ho ha hQ => enter he fun r hr => step_sy hw (leave (ih _ _ hr (orderly_tail ho) (above_tail ha) hQ))

/-- The same, up to the order of the last ledger. -/
theorem sound_to {t : PR F} {l : List I} {bs be : List A} (hM : M xs ws c l t) (hb : (exec l bs).bind (takes be) = some [])
    (ho : orderly l = true) (ha : above 0 l = true) (hQ : St xs ws c [] be iprop(emp) ⊢ Q ⟨⟩) : St xs ws c l bs iprop(emp) ⊢ wpc c t Q := by
  cases he : exec l bs with
  | none => rw [he] at hb; cases hb
  | some fl =>
    rw [he] at hb
    refine sound hM bs fl he ho ha (.trans ?_ hQ)
    unfold St
    iintro ⟨HK, Hs, Hl, HR, HO⟩
    ihave H := (led_takes xs ws c be fl [] hb) $$ Hl
    icases H with ⟨H, -⟩
    isplitl [HK]; · iexact HK
    isplitl [Hs]; · iexact Hs
    isplitl [H]; · iexact H
    isplitl [HR]; · iexact HR
    iexact HO

/-- The body, from the first ledger to the last. -/
theorem run_body (hQ : St xs ws c [] led1 iprop(emp) ⊢ Q ⟨⟩) : St xs ws c body led0 iprop(emp) ⊢ wpc c (theBody (F := F)) Q :=
  sound_to (runs xs ws c) balanced body_orderly all_above hQ

end Cert.KProof

end
-- ==== Proof.Run.lean ====
/- The launch: what it deals to the devices, and the run of the whole program. -/
module

public import proofs.«01_k».proof.Proof.Ends
public import proofs.«01_k».proof.Proof.Sound
public import proofs.«01_k».proof.Proof.Gen.KernelIdeal.Points
public import Idealize.ShloMosaic.Lib.Pipeline.CollectiveSegs

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ) (ρ : Dev nD → PrngReg)

/-- A device's two arguments. -/
def xs (c : Dev nD) : S2048x256.Idx → Elt F .bf16 :=
  (win0_0.blk (0 : Fin 1)).view.read (Elt F) (m ((c : Thread nD τ).loc main_arg0))
def ws (c : Dev nD) : S256x2048.Idx → Elt F .bf16 :=
  (win0_1.blk (0 : Fin 1)).view.read (Elt F) (m ((c : Thread nD τ).loc main_arg1))
/-- The result, the same on every device. -/
def out : S2048x2048.Idx → Elt F .bf16 := outV (xs m) (ws m)

/-- The kernel's own semaphores. -/
def osem (x : Fin 6 × Fin 4 × Fin 7) : SemLoc sig := csem (some x)

/-- What every device may use: the contracts. -/
def contracts : sProp 𝕄 :=
  bigSep Finset.univ fun cx : Dev nD × CI => iprop((∃ κ : ℕ, cellInv ER (Rd (xs m) (ws m)) κ (kcell cx.1 cx.2)) ∗ reached ER (kcell cx.1 cx.2) 0)
instance contracts_persistent : BI.Persistent (contracts m) := by unfold contracts; infer_instance

/-- What a device starts from, and what its semaphores are at the end. -/
def start (c : Dev nD) : sProp 𝕄 := iprop(known (xs m) (ws m) ∗ positions c ∗ payToks c ∗ credits c)
def zero (c : Dev nD) : sProp 𝕄 :=
  iprop(semVal (kcell c none) 0 ∗ bigSep Finset.univ fun x : Fin 6 × Fin 4 × Fin 7 => semVal (kcell c (some x)) 0)
def Φ₀ (c : Dev nD) : sProp 𝕄 := iprop(start m c ∗ slots c)
def Φ₁ (c : Dev nD) : sProp 𝕄 := iprop(slots c ∗ zero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => out m
  Φ t := match t with
    | ⟨0, _⟩ => Φ₀ m c
    | ⟨_ + 1, _⟩ => Φ₁ c
  q _ := fullShare
  owed t := match t with
    | ⟨0, _⟩ => owesOf c body
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- The state the launch gives the body, and the one it gets back. -/
abbrev stageX (c : Dev nD) {sh : Shape} (M : Memref sig .tc .vmem sh .bf16) (X : Vec F sh .bf16) : sProp 𝕄 := ow c M fullShare X
def bodyPre (c : Dev nD) : sProp 𝕄 :=
  iprop(Φ₀ m c ∗ (dats m ρ 0 c).owesAt () t0_0.castSucc
    ∗ (∃ d, stageX c xM ((dats m ρ 0 c).before (0 : Fin 3) t0_0 d))
    ∗ (∃ d, stageX c wM ((dats m ρ 0 c).before (1 : Fin 3) t0_0 d))
    ∗ (∃ d, stageX c outM ((dats m ρ 0 c).before (2 : Fin 3) t0_0 d)))
def bodyPost (c : Dev nD) : sProp 𝕄 :=
  iprop(Φ₁ c ∗ (dats m ρ 0 c).owesAt () t0_0.succ ∗ stageX c xM (xs m c) ∗ stageX c wM (ws m c) ∗ stageX c outM (out m))

theorem before_x (c : Dev nD) (d) : (dats m ρ 0 c).before (0 : Fin 3) t0_0 d = xs m c := by
  unfold Dat.before; rw [if_pos (fetch0_0 t0_0)]; rfl
theorem before_w (c : Dev nD) (d) : (dats m ρ 0 c).before (1 : Fin 3) t0_0 d = ws m c := by
  unfold Dat.before; rw [if_pos (fetch0_1 t0_0)]; rfl

theorem body_enter (c : Dev nD) : bodyPre m ρ c ⊢ St (xs m) (ws m) c body led0 iprop(emp) := by
  unfold bodyPre Φ₀ start St debt Dat.owesAt Pipeline.owesWithin stage
  rw [show (dats m ρ 0 c).owed t0_0.castSucc = owesOf c body from rfl]
  iintro ⟨⟨⟨HK, HP, HT, HC⟩, HS⟩, ⟨%W, %hW, HO⟩, ⟨%d0, Hx⟩, ⟨%d1, Hw⟩, ⟨%d2, Hout⟩⟩
  isplitl [HK]; · iexact HK
  isplitl [Hx Hw]
  · isplitl [Hx]
    · iapply (Entails.of_eq (congrArg (stageX c xM) (before_x m ρ c d0))); iexact Hx
    · iapply (Entails.of_eq (congrArg (stageX c wM) (before_w m ρ c d1))); iexact Hw
  isplitl [HP HT HC HS Hout]
  · iapply (led0_intro (xs m) (ws m) c)
    isplitl [HP]; · iexact HP
    isplitl [HT]; · iexact HT
    isplitl [HC]; · iexact HC
    isplitl [Hout]; · iexists _; iexact Hout
    iexact HS
  isplitr; · iempintro
  iexists W; iexact HO

theorem body_leave (c : Dev nD) : St (xs m) (ws m) c [] led1 iprop(emp) ⊢ bodyPost m ρ c := by
  unfold bodyPost Φ₁ zero St debt Dat.owesAt Pipeline.owesWithin stage
  rw [show (dats m ρ 0 c).owed t0_0.succ = 0 from rfl, show owesOf c [] = 0 from rfl]
  iintro ⟨-, ⟨Hx, Hw⟩, Hl, -, ⟨%W, HO⟩⟩
  ihave H := (led1_elim (xs m) (ws m) c) $$ Hl
  icases H with ⟨Ho, HS, HZ⟩
  isplitl [HS HZ]
  · isplitl [HS]; · iexact HS
    iexact HZ
  isplitl [HO]
  · iexists W; isplitr
    · ipureintro; exact fun _ _ => Or.inl trivial
    · iexact HO
  isplitl [Hx]; · iexact Hx
  isplitl [Hw]; · iexact Hw
  iexact Ho

theorem body_obligation (c : Dev nD) : BodyObligation (dats (F := F) m ρ 0 c) (defs₀ (F := F)) 𝒱₀ () Set.univ := fun t => by
  rw [fin_N0 t]
  rw [bigSep_W0, bigSep_W0]
  rw [show defs₀ (F := F) Proc.tc cfg0.body (cfg0.bodyArgs t0_0 (cfg0.slots t0_0)) = theBody (F := F) from rfl]
  have h : bodyPre m ρ c ⊢ wpc c (theBody (F := F)) (fun _ => bodyPost m ρ c) := (body_enter m ρ c).trans (run_body (body_leave m ρ c))
  revert h
  generalize theBody (F := F) = b
  exact fun h => h

/-! ## The launch -/

theorem osem_inj : Function.Injective osem := fun x y h => Option.some.inj (csem_inj h)
theorem ownSemFacts : Pipeline.OwnSemFacts cfg0.spec osem := ⟨by decide +kernel, osem_inj, by decide +kernel⟩

theorem share_eq (c : Dev nD) (w : Fin cfg0.W) : (dats m ρ 0 c).share w = fullShare := by unfold Dat.share; split <;> rfl

theorem kcell_injective : Function.Injective fun cx : Dev nD × CI => kcell cx.1 cx.2 := fun a b h =>
  Prod.ext (kcell_inj h).1 (kcell_inj h).2
def cells : Finset (GSem nD τ sig) := Finset.univ.map ⟨_, kcell_injective⟩

/-- The tokens of a device's own semaphores. -/
def tokOf (y : Dev nD × (Fin 3 ⊕ Fin 6 × Fin 4 × Fin 7)) : GSem nD τ sig × ℕ × Fin 3 := match y.2 with
  | .inl d => (kcell y.1 none, 0, d)
  | .inr x => (kcell y.1 (some x), 0, 0)
theorem tokOf_injective : Function.Injective tokOf := by
  rintro ⟨c, d | x⟩ ⟨c', d' | x'⟩ h
  · obtain ⟨rfl, -⟩ := kcell_inj (congrArg Prod.fst h)
    rw [show d = d' from congrArg (fun y => y.2.2) h]
  · exact absurd (kcell_inj (congrArg Prod.fst h)).2 (by simp)
  · exact absurd (kcell_inj (congrArg Prod.fst h)).2 (by simp)
  · obtain ⟨rfl, hx⟩ := kcell_inj (congrArg Prod.fst h)
    rw [Option.some.inj hx]
def toks : Finset (GSem nD τ sig × ℕ × Fin 3) := Finset.univ.map ⟨tokOf, tokOf_injective⟩

def u₀ : UU := (initOf (Pipeline.cells cfgs cellOf_inj) (Pipeline.launchToks cfgs cellOf_inj), initOf cells toks)

/-- What a device is dealt of the protocol, and what the devices make of it together. -/
def G (c : Dev nD) : sProp 𝕄 :=
  iprop((bigSep Finset.univ fun x : CI => roundState ER (Rd (xs m) (ws m)) (kcell c x) 0)
    ∗ (bigSep Finset.univ fun x : CI => reached ER (kcell c x) 0) ∗ positions c ∗ ownToks c)
def G' (c : Dev nD) : sProp 𝕄 := iprop(contracts m ∗ positions c ∗ payToks c)

theorem fund : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun x : CI => Φ (kcell c x) := by
    unfold cells; rw [bigSep_map, bigSep_univ_prod]; rfl
  have hT : bigSep toks (fun x => (dutyTok ER x.1 x.2.1 x.2.2 : sProp 𝕄)) = bigSep Finset.univ fun c : Dev nD => ownToks c := by
    unfold toks; rw [bigSep_map, bigSep_univ_prod]
    exact bigSep_congr fun c _ => by rw [bigSep_univ_sum]; rfl
  iintro HX
  imod (Rounds.fund ER (Rd (xs m) (ws m)) cells toks) $$ HX with ⟨Hst, Hr, Hat, Htok⟩
  imodintro
  ihave Hst' := (Entails.of_eq (hX fun g => roundState ER (Rd (xs m) (ws m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G positions; simp only [bigSep_sep']
  isplitl [Hst']; · iexact Hst'
  isplitl [Hr']; · iexact Hr'
  isplitl [Hat']; · iexact Hat'
  iexact Htok'

theorem unscopedSems0_eq (c : Dev nD) : (unscopedSems0 c : sProp 𝕄) = semVal (kcell c none) 0 := by
  unfold unscopedSems0; rw [bigSep_eq_bigSepL_of_eq [SemLoc.reg barS] (by decide +kernel) (by decide)]; rfl

theorem ownSems0_eq (c : Dev nD) : (Pipeline.ownSems0 (Ix := Unit) (Name := ℕ) (U := UU) (Lvl := ℕ) (Val := Elt F) (τ := τ) osem c : sProp 𝕄)
    = bigSep Finset.univ fun x : Fin 6 × Fin 4 × Fin 7 => semVal (kcell c (some x)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell c x) 0 : sProp 𝕄) := by
  rw [ownSems0_eq, unscopedSems0_eq, by_none]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CI => iprop((∃ κ : ℕ, cellInv ER (Rd (xs m) (ws m)) κ (kcell c x)) ∗ reached ER (kcell c x) 0))
          ∗ positions c ∗ ownToks c) := by
  unfold G
  rw [bigSep_sep']
  iintro ⟨Hos, Hus, Hst, Hr, Hat, Htok⟩
  ihave Hv := (sems0_eq (F := F) c) $$ [Hos Hus]
  · isplitl [Hos] <;> iassumption
  imod (show iprop((bigSep Finset.univ fun x : CI => semVal (kcell c x) 0) ∗ bigSep Finset.univ fun x : CI => roundState ER (Rd (xs m) (ws m)) (kcell c x) 0)
      ⊢ (|={Set.univ}=> bigSep Finset.univ fun x : CI => iprop(∃ κ : ℕ, cellInv ER (Rd (xs m) (ws m)) κ (kcell c x)) : sProp 𝕄) from by
        rw [← bigSep_sep']
        exact (bigSep_mono fun x _ => (Rounds.body_intro ER (Rd (xs m) (ws m)) (kcell c x)).trans inv_alloc).trans (bigSep_fupd _ _)) $$ [Hv Hst] with Hinv
  · isplitl [Hv] <;> iassumption
  imodintro
  isplitl [Hinv Hr]
  · isplitl [Hinv]; · iexact Hinv
    iexact Hr
  isplitl [Hat]; · iexact Hat
  iexact Htok

theorem regroup :
    (bigSep Finset.univ fun c : Dev nD => iprop((bigSep Finset.univ fun x : CI => iprop((∃ κ : ℕ, cellInv ER (Rd (xs m) (ws m)) κ (kcell c x)) ∗ reached ER (kcell c x) 0))
          ∗ positions c ∗ ownToks c) : sProp 𝕄)
      ⊢ bigSep Finset.univ (G' m) := by
  rw [bigSep_sep', bigSep_sep', toks_around,
    ← bigSep_univ_prod (fun cx : Dev nD × CI => iprop((∃ κ : ℕ, cellInv ER (Rd (xs m) (ws m)) κ (kcell cx.1 cx.2)) ∗ reached ER (kcell cx.1 cx.2) 0))]
  rw [show bigSep Finset.univ (G' m) = iprop((bigSep Finset.univ fun _ : Dev nD => contracts m) ∗ bigSep Finset.univ (fun c : Dev nD => positions c)
      ∗ bigSep Finset.univ fun c : Dev nD => payToks c) from by unfold G'; rw [bigSep_sep', bigSep_sep']]
  exact sep_mono_left (show contracts m ⊢ _ from BI.bigSep_of_persistent (Finset.univ : Finset (Dev nD)) (contracts m))

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### Credits -/

/-- All devices together owe a semaphore of `c` what the program pays a semaphore of that name. -/
theorem owed_all (c : Dev nD) (x : CI) : ∀ l : List I, (∑ d : Dev nD, owesOf d l (kcell c x) ()) = times x l * amt x
  | [] => by simp [owesOf, times]
  | i :: l => by
    have ih := owed_all c x l
    unfold times at ih ⊢
    rw [List.countP_cons]
    cases ht : tgt i with
    | none => simp only [owesOf, ht]; rw [ih]; simp
    | some t =>
      simp only [owesOf, ht, Pi.add_apply, Finsupp.add_apply, Finset.sum_add_distrib, tallyAt_apply]
      rw [ih, Nat.add_mul]
      congr 1
      by_cases hx : t.2 = x
      · rw [Finset.sum_congr rfl (g := fun d => if d = c ^^^ t.1 then amt x else 0), Finset.sum_ite_eq' Finset.univ (c ^^^ t.1) fun _ => amt x, if_pos (Finset.mem_univ _)]
        · simp [hx]
        · intro d _
          refine if_congr ⟨fun h => ?_, fun h => ?_⟩ (by rw [hx]) rfl
          · rw [(kcell_inj h.1).1, xor_back]
          · rw [h, xor_back, hx]; exact ⟨rfl, trivial⟩
      · rw [Finset.sum_eq_zero fun d _ => if_neg fun h => hx (kcell_inj h.1).2.symm]
        simp [hx]

theorem launch_at (c : Dev nD) (x : CI) (n : ℕ) (h : times x body * amt x = n) :
    tallyOn (kcell c x) (launchCredit (Pipeline.owing fun d => owesOf d body) 0 (kcell c x)) = (tallyAt (kcell c x) () n : CellTallies nD τ sig Unit) := by
  unfold tallyAt; refine congrArg _ (Finsupp.ext fun u => ?_); cases u
  rw [Pipeline.launchCredit_owing, Finsupp.single_eq_same, owed_all, h]

theorem credits_intro (c : Dev nD) : (Pipeline.launchCred (fun d => owesOf d body) c : sProp 𝕄) ⊢ credits c := by
  unfold Pipeline.launchCred
  refine (bigSep_subset (Finset.subset_univ (Finset.univ.map ⟨csem, csem_inj⟩))).trans ?_
  rw [bigSep_map, by_none, by_kind]
  unfold credits
  show (_ : sProp 𝕄) ⊢ _
  iintro ⟨H, -, -, H2, H3⟩
  isplitl [H]
  · iapply (Entails.of_eq (congrArg (fun y => (cred y : sProp 𝕄)) (launch_at c none 3 (by rw [times_bar]; rfl)))); iexact H
  isplitl [H2]
  · iapply (Entails.of_eq (bigSep_congr fun (x : Fin 6 × Fin 7) _ => congrArg (fun y => (cred y : sProp 𝕄))
      (launch_at c (some (x.1, 2, x.2)) (nb x.1) (by rw [(times_recv x.1 x.2).1, Nat.one_mul]; rfl)))); iexact H2
  · iapply (Entails.of_eq (bigSep_congr fun (x : Fin 6 × Fin 7) _ => congrArg (fun y => (cred y : sProp 𝕄))
      (launch_at c (some (x.1, 3, x.2)) (nb x.1) (by rw [(times_recv x.1 x.2).2, Nat.one_mul]; rfl)))); iexact H3

/-! ### What enters and leaves the region -/

theorem start_intro (c : Dev nD) :
    iprop(Pipeline.unscopedRestP Pipeline.Prefetch.none cfg0.spec c (fun b => m ((c : Thread nD τ).loc b)) ∗ levAts L lv
        ∗ Pipeline.launchCred (fun d => owesOf d body) c ∗ prngReg c (ρ c) ∗ G' m c)
      ⊢ |={Set.univ}=> iprop(start m c ∗ emp) := by
  iintro ⟨-, Hlev, Hcr, -, HG⟩
  ihave Hc := (credits_intro (F := F) c) $$ Hcr
  imodintro
  unfold start G' known contracts
  icases HG with ⟨HI, HP, HT⟩
  isplitl
  · isplitl [HI Hlev]
    · isplitl [HI]; · iexact HI
      iexact Hlev
    isplitl [HP]; · iexact HP
    isplitl [HT]; · iexact HT
    iexact Hc
  · iempintro

/-- A whole buffer at some contents. -/
theorem whole_ex (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
  simp only [owns_whole_eq]
  refine BI.equiv_iff.mp ⟨?_, ?_⟩
  · show (_ : sProp 𝕄) ⊢ _
    iintro ⟨%f, H⟩; iexists f; iexists f
    isplitr; · ipureintro; rfl
    iexact H
  · show (_ : sProp 𝕄) ⊢ _
    iintro ⟨%X, %f, -, H⟩; iexists f; iexact H

theorem slots_eq (c : Dev nD) : (Pipeline.scopedRest cfg0.spec c : sProp 𝕄) = slots c := by
  show Pipeline.scopedRest spec0 c = slots c
  rw [scopedRest0_eq, whole_ex, whole_ex, whole_ex, whole_ex, whole_ex, whole_ex]
  unfold slots
  rw [by_six]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, slots_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, slots_eq, ownSems0_eq, unscopedSems0_eq]
  unfold Φ₁ zero
  iintro ⟨Hr, HB, HZ⟩
  isplitl [HB]; · iexact HB
  isplitl [HZ]; · iexact HZ
  iexact Hr

theorem waits (c : Dev nD) : (levAts L lv : sProp 𝕄) ⊢ Pipeline.cellsWaits cfgs (dats m ρ) () 0 c :=
  Pipeline.cellsWaits_intro cfgs (dats m ρ) () 0 c fun w s t => by
    have hv : lv ((c : Thread nD τ), .dma ((cfg0.win w).sem s)) () ≤ 0 := by
      fin_cases w <;> fin_cases s <;> exact Nat.le_refl 0
    rcases t with ⟨_ | _, ht⟩
    · exact mayWait_of c _ 0 hv body all_above
    · exact mayWait_of c _ 0 hv [] rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, every fair execution of the program ends, with each device's arrays at the
contents computed here and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owesOf d body) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KProof

end
-- ==== Proof.Final.lean ====
/- What every device's arrays hold at the end: the arguments unchanged, the result the finished blocks. -/
module

public import proofs.«01_k».proof.Proof.Run
public import Idealize.ShloMosaic.Lib.Pipeline.ValueKit.Geometry

@[expose] public section

noncomputable section

namespace Cert.KProof

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The one block of each argument is the argument itself. -/
theorem xs_eq (c : Dev nD) (i : S2048x256.Idx) : xs m c i = m ((c : Thread nD τ).loc main_arg0) i :=
  congrArg (m ((c : Thread nD τ).loc main_arg0)) (funext fun b => Fin.ext (show ((win0_0.rect (0 : Fin 1)).emb i b : ℕ) = i b from win0_0.rect_emb_val_of_index_zero (0 : Fin 1) b (by revert b; decide) i))
theorem ws_eq (c : Dev nD) (i : S256x2048.Idx) : ws m c i = m ((c : Thread nD τ).loc main_arg1) i :=
  congrArg (m ((c : Thread nD τ).loc main_arg1)) (funext fun b => Fin.ext (show ((win0_1.rect (0 : Fin 1)).emb i b : ℕ) = i b from win0_1.rect_emb_val_of_index_zero (0 : Fin 1) b (by revert b; decide) i))

theorem final_x (c : Dev nD) : finalA m ρ c 0 = m ((c : Thread nD τ).loc main_arg0) := (dats m ρ 0 c).arrAt_in 0 rfl _
theorem final_w (c : Dev nD) : finalA m ρ c 1 = m ((c : Thread nD τ).loc main_arg1) := (dats m ρ 0 c).arrAt_in 1 rfl _

theorem read_out (g : S2048x2048.Idx → Elt F .bf16) (t : Fin cfg0.N) : ((cfg0.win 2).blk t).view.read (Elt F) g = g := by
  obtain rfl := fin_N0 t
  funext i
  exact congrArg g (funext fun b => Fin.ext (show ((win0_2.rect t0_0).emb i b : ℕ) = i b from win0_2.rect_emb_val_of_index_zero t0_0 b (by revert b; decide) i))

theorem final_out (c : Dev nD) : finalA m ρ c 2 = out m :=
  (dats m ρ 0 c).arrAt_eq_of_cover 2 (out m) (fun t _ => (read_out (F := F) (out m) t).symm)
    (Pipeline.Window.Covers.cover win0_2 (by decide +kernel) (Memref.isWhole_whole _))

/-- The program leaves the arguments as they were, the result at the finished blocks and every counter at zero. -/
theorem run_whole : θ_run defs (onTc (τ := τ) (main (F := F))) ⟨m, fun _ => 0, ρ⟩ (fun r => (∀ c : Dev nD,
      r.2.mem ((c.tc : Thread nD τ).loc main_v1) = out m
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (final_out m ρ c), (h.1 c 0).trans (final_x m ρ c), (h.1 c 1).trans (final_w m ρ c)⟩, h.2⟩)
    (run_main m ρ)

end Cert.KProof

end
-- ==== Proof.Value.lean ====
/- The value over the reals: the finished blocks are the larger of zero and the whole product. -/
module

public import proofs.«01_k».proof.Proof.Ends
public import Idealize.ShloMosaic.PureOps.Ideal
public import Idealize.ShloMosaic.Lib.StackMember
public import Idealize.ShloMosaic.Lib.ValueIdx
public import Idealize.ShloMosaic.Lib.IdealHost
public import Idealize.ShloMosaic.Lib.Pointwise.Sums
public import Idealize.ShloMosaic.Lib.Layout

@[expose] public section

noncomputable section

namespace Cert.KProof

open Cert.KernelIdeal Cert.KernelIdeal.Gen
open Idealize.ShloMosaic hiding ix2 eq_ix2
open Idealize.ShloMosaic.TcCoe Idealize.ShloMosaic.ValueIdx
open scoped BigOperators

/-! ## One device's product -/

/-- A block product at an index: the sum over the 256 contracted positions. -/
theorem block_product (N : ℕ) (x : FVec Ideal S256x256 .bf16) (w : FVec Ideal ⟨2, ![256, N]⟩ .bf16)
    (h : S256x256.ShapeCasts S256x256) (h' : (⟨2, ![256, N]⟩ : Shape).ShapeCasts ⟨2, ![256, N]⟩) (hb : FTy.bits .bf16 < FTy.bits .f32)
    (j : (⟨2, ![256, N]⟩ : Shape).Idx) :
    truncf .bf16 (matmul (DotDims.plain 256 256 N) none (shapeCast S256x256 x h) (shapeCast ⟨2, ![256, N]⟩ w h') (constant _ .f32 0x00000000#32)) hb j
      = ∑ κ : Fin 256, x (ix2 (j 0) κ) * w (ix2 κ (j 1)) := by
  rw [truncf_apply, shapeCast_self, shapeCast_self, matmul_zero_eq_dotGeneral]
  conv_lhs => rw [eq_ix2 j]
  exact StackMember.dotGeneral_plain_apply none x w (j 0) (j 1)

variable (xs : Dev nD → FVec Ideal S2048x256 .bf16) (ws : Dev nD → FVec Ideal S256x2048 .bf16)

/-- Device `d`'s share of the product at row `r`, column `n`. -/
def share (d : Dev nD) (r n : Fin 2048) : EReal := ∑ κ : Fin 256, xs d (ix2 r κ) * ws d (ix2 κ n)

theorem row_lt (p : Fin 6) (a : Fin 8) (j : (Sp p).Idx) : 256 * a.val + 128 * hf p + (j 0).val < 2048 := by
  have := hf_lt p; have h : (j 0).val < 128 := (j 0).isLt; omega
theorem column_lt (p : Fin 6) (j : (Sp p).Idx) : cstart (col p) + (j 1).val < 2048 := by
  have h : (j 1).val < width (col p) := (j 1).isLt
  have : ∀ i, cstart i + width i ≤ 2048 := by decide
  have := this (col p); omega

theorem xb_at (d : Dev nD) (a : Fin 8) (r κ : Fin 256) : xb (F := Ideal) xs d a (ix2 r κ) = xs d (ix2 ⟨256 * a.val + r.val, by omega⟩ κ) :=
  congrArg (xs d) (funext fun b => Fin.ext (by
    match b with
    | ⟨0, _⟩ => show 256 * a.val + 1 * r.val = 256 * a.val + r.val; omega
    | ⟨1, _⟩ => show 0 + 1 * κ.val = κ.val; omega))
theorem wb_at (d : Dev nD) (i : Fin 3) (κ : Fin 256) (n : Fin (width i)) (hn : cstart i + n.val < 2048) :
    wb (F := Ideal) ws i d (ix2 κ n) = ws d (ix2 κ ⟨cstart i + n.val, hn⟩) :=
  congrArg (ws d) (funext fun b => Fin.ext (by
    match b with
    | ⟨0, _⟩ => show 0 + 1 * κ.val = κ.val; omega
    | ⟨1, _⟩ => show cstart i + 1 * n.val = cstart i + n.val; omega))

theorem gm_at (i : Fin 3) (d : Dev nD) (k : Fin 8) (j : (Sc i).Idx) :
    gm (F := Ideal) xs ws i d k j = ∑ κ : Fin 256, xb (F := Ideal) xs d (d ^^^ k) (ix2 (j 0) κ) * wb (F := Ideal) ws i d (ix2 κ (j 1)) :=
  match i, j with
  | 0, j => block_product 768 _ _ _ _ _ j
  | 1, j => block_product 640 _ _ _ _ _ j
  | 2, j => block_product 640 _ _ _ _ _ j

/-- The block a device computes for the absolute chunk `a` is its share of the product there. -/
theorem first_at (p : Fin 6) (d : Dev nD) (k a : Fin 8) (h : d ^^^ k = a) (j : (Sp p).Idx) :
    Xv (F := Ideal) xs ws p 0 d k j = share xs ws d ⟨256 * a.val + 128 * hf p + (j 0).val, row_lt p a j⟩ ⟨cstart (col p) + (j 1).val, column_lt p j⟩ := by
  subst h
  rw [Xv_zero, half, gm_at]
  refine Finset.sum_congr rfl fun κ _ => congrArg₂ (· * ·) ((xb_at xs d _ _ κ).trans (congrArg (xs d) ?_)) ((wb_at ws d _ κ _ ?_).trans (congrArg (ws d) ?_))
  · refine congrArg (fun r => ix2 r κ) (Fin.ext ?_)
    show 256 * (d ^^^ k).val + (128 * hf p + 1 * (j 0).val) = 256 * (d ^^^ k).val + 128 * hf p + (j 0).val
    omega
  · have := column_lt p j
    show cstart (col p) + (0 + 1 * (j 1).val) < 2048
    omega
  · refine congrArg (fun n => ix2 κ n) (Fin.ext ?_)
    show cstart (col p) + (0 + 1 * (j 1).val) = cstart (col p) + (j 1).val
    omega

/-! ## The sum over the devices -/

theorem acc_at (p : Fin 6) (u v : FVec Ideal (Sp p) .bf16) (j : (Sp p).Idx) : acc (F := Ideal) p u v j = u j + v j := by
  unfold acc; rw [shapeCast_self]; rfl

/-- A stage of the reduction adds the neighbour's block. -/
theorem stage_at (p : Fin 6) (s : Fin 3) (d : Dev nD) (k : Fin 8) (j : (Sp p).Idx) : Xv (F := Ideal) xs ws p (s.val + 1) d k j
    = Xv (F := Ideal) xs ws p s.val d k j + Xv (F := Ideal) xs ws p s.val (d ^^^ ord (col p) s) (k ^^^ ord (col p) s) j :=
  (congrFun (by fin_cases s <;> simp [Xv]) j).trans (acc_at p _ _ j)

/-- The three exchanges visit every device once. -/
theorem all_devices (i : Fin 3) (a : Dev nD) (f : Dev nD → EReal) :
    ((f a + f (a ^^^ ord i 0)) + (f (a ^^^ ord i 1) + f (a ^^^ ord i 1 ^^^ ord i 0)))
      + ((f (a ^^^ ord i 2) + f (a ^^^ ord i 2 ^^^ ord i 0)) + (f (a ^^^ ord i 2 ^^^ ord i 1) + f (a ^^^ ord i 2 ^^^ ord i 1 ^^^ ord i 0))) = ∑ d, f d := by
  have h : [a, a ^^^ ord i 0, a ^^^ ord i 1, a ^^^ ord i 1 ^^^ ord i 0, a ^^^ ord i 2, a ^^^ ord i 2 ^^^ ord i 0, a ^^^ ord i 2 ^^^ ord i 1,
      a ^^^ ord i 2 ^^^ ord i 1 ^^^ ord i 0].Perm (List.finRange 8) := by revert i a; decide
  rw [← List.sum_ofFn, List.ofFn_eq_map, ← (h.map f).sum_eq]
  simp only [List.map_cons, List.map_nil, List.sum_cons, List.sum_nil, add_zero, add_assoc]

theorem sum_at (p : Fin 6) (a : Fin 8) (j : (Sp p).Idx) :
    Xv (F := Ideal) xs ws p 3 a 0 j = ∑ d, share xs ws d ⟨256 * a.val + 128 * hf p + (j 0).val, row_lt p a j⟩ ⟨cstart (col p) + (j 1).val, column_lt p j⟩ := by
  rw [← all_devices (col p) a]
  have e1 (d k) := stage_at xs ws p 0 d k j
  have e2 (d k) := stage_at xs ws p 1 d k j
  have e3 (d k) := stage_at xs ws p 2 d k j
  simp only [Fin.val_zero, Fin.val_one, Fin.val_two, Nat.zero_add, Nat.reduceAdd] at e1 e2 e3
  rw [e3, e2, e2, e1, e1, e1, e1]
  refine congrArg₂ (· + ·) (congrArg₂ (· + ·) (congrArg₂ (· + ·) ?_ ?_) (congrArg₂ (· + ·) ?_ ?_)) (congrArg₂ (· + ·) (congrArg₂ (· + ·) ?_ ?_) (congrArg₂ (· + ·) ?_ ?_))
  all_goals exact first_at xs ws p _ _ a (by generalize col p = i; revert i a; decide) j

theorem finished_at (p : Fin 6) (a : Fin 8) (j : (Sp p).Idx) :
    Yv (F := Ideal) xs ws p a j = max (∑ d, share xs ws d ⟨256 * a.val + 128 * hf p + (j 0).val, row_lt p a j⟩ ⟨cstart (col p) + (j 1).val, column_lt p j⟩) 0 := by
  unfold Yv relu
  rw [maximumf_apply, shapeCast_self, sum_at, broadcast_apply]
  exact congrArg _ Ideal.ofBits_zero_bf16

/-- The result at any index: the larger of zero and the sum of the devices' shares. -/
theorem out_at (i : S2048x2048.Idx) : outV (F := Ideal) xs ws i = max (∑ d, share xs ws d (i 0) (i 1)) 0 := by
  have hi := Finset.mem_univ i
  rw [← rO_cover, Finset.mem_biUnion] at hi
  obtain ⟨⟨p, a⟩, -, h⟩ := hi
  replace h := (mem_rO p a i).mp h
  obtain ⟨j, rfl⟩ : ∃ j, (rO p a).emb j = i := ⟨ix2 ⟨(i 0).val - (256 * a.val + 128 * hf p), by omega⟩ ⟨(i 1).val - cstart (col p), by omega⟩, by
    funext b; apply Fin.ext
    match b with
    | ⟨0, _⟩ => show 256 * a.val + 128 * hf p + 1 * ((i 0).val - (256 * a.val + 128 * hf p)) = (i 0).val; omega
    | ⟨1, _⟩ => show cstart (col p) + 1 * ((i 1).val - cstart (col p)) = (i 1).val; omega⟩
  rw [outV_at, finished_at]
  refine congrArg (max · 0) (Finset.sum_congr rfl fun d _ => congrArg₂ (share xs ws d) (Fin.ext ?_) (Fin.ext ?_))
  · show 256 * a.val + 128 * hf p + (j 0).val = 256 * a.val + 128 * hf p + 1 * (j 0).val; omega
  · show cstart (col p) + (j 1).val = cstart (col p) + 1 * (j 1).val; omega

/-! ## The whole product -/

/-- Shares of the blocks of two whole arrays add up to the whole product. -/
theorem shares_product (A B : FVec Ideal S2048x2048 .bf16) (r n : Fin 2048) :
    ∑ d : Dev nD, share (fun d => Layout.block ⟨2, ![2048, 256]⟩ ⟨2, ![2048, 2048]⟩ 1 8 d A) (fun d => Layout.block ⟨2, ![256, 2048]⟩ ⟨2, ![2048, 2048]⟩ 0 8 d B) d r n
      = ∑ k : Fin 2048, A (ix2 r k) * B (ix2 k n) := by
  rw [Fin.sum_univ_tiles 8 256 rfl]
  refine Finset.sum_congr rfl fun d _ => Finset.sum_congr rfl fun κ _ => congrArg₂ (· * ·) (congrArg A ?_) (congrArg B ?_)
  · funext b; apply Fin.ext
    match b with
    | ⟨0, _⟩ => rfl
    | ⟨1, _⟩ => rfl
  · funext b; apply Fin.ext
    match b with
    | ⟨0, _⟩ => rfl
    | ⟨1, _⟩ => rfl

end Cert.KProof

end
-- ==== Proof.lean ====
/- The claims: the kernel on eight devices runs, leaves its arguments and every counter as they were, and over the reals
   every device's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Value
public import Idealize.ShloMosaic.Adequacy
public import Idealize.ShloMosaic.Init

@[expose] public section

noncomputable section

namespace Cert.Proof

open Idealize.ShloMosaic hiding ix2 eq_ix2
open Idealize.ShloMosaic.ValueIdx
open Idealize.SL.Sem Cert.KProof

set_option smartUnfolding false in
/-- The two printings of the kernel hold the same kernel body. -/
theorem same_kernels {F : FTy → Type} [FloatOps F] : Cert.Kernel.defs₀ (F := F) = Cert.KernelIdeal.defs₀ (F := F) := rfl

/-- The two printings of the kernel hold the same procedures. -/
theorem same_defs {F : FTy → Type} [FloatOps F] : Cert.Kernel.defs (F := F) = Cert.KernelIdeal.defs (F := F) :=
  congrArg (Pipeline.defs (Cert.KernelIdeal.pcfgs (F := F))) same_kernels

/-- The kernel as printed: its run, the contents dropped (the idealized kernel has the same text). -/
theorem frame_kernel : Cert.quiescent_Kernel := fun m ρ _ => by
  rw [same_defs]
  exact (θ_run Cert.KernelIdeal.defs _ _).mono (fun _ h => ⟨fun c => (h.1 c).2, h.2⟩) (run_whole (F := Bits) m ρ)

/-- The kernel over the reals: its run, the contents dropped. -/
theorem frame_ideal : Cert.quiescent_KernelIdeal := fun m ρ _ =>
  (θ_run Cert.KernelIdeal.defs _ _).mono (fun _ h => ⟨fun c => (h.1 c).2, h.2⟩) (run_whole (F := Ideal) m ρ)

/-- The reference's result at an index: the larger of zero and the product there. -/
theorem reference_at (A B : FVec Ideal ⟨2, ![2048, 2048]⟩ .bf16) (i : (⟨2, ![2048, 2048]⟩ : Shape).Idx) :
    (truncf .bf16 (maximumf (extf .f32 (truncf .bf16 (Host.dotGeneral Cert.ReferenceIdeal.dot_S2048x2048_S2048x2048_S2048x2048_1_0_0_1_n_n none A B)
        Cert.ReferenceIdeal.Facts₀.bitsLt_bf16_f32) Cert.ReferenceIdeal.Facts₀.bitsLt_bf16_f32)
      (broadcastInDim Cert.ReferenceIdeal.S2048x2048 ![] Cert.ReferenceIdeal.Facts₀.bcast_S_S2048x2048 (constant Cert.ReferenceIdeal.S_ .f32 0x00000000#32)))
      Cert.ReferenceIdeal.Facts₀.bitsLt_bf16_f32 : FVec Ideal ⟨2, ![2048, 2048]⟩ .bf16) i
      = max (∑ k : Fin 2048, A (ix2 (i 0) k) * B (ix2 k (i 1))) 0 := by
  rw [truncf_apply, maximumf_apply, extf_apply, truncf_apply, broadcastInDim_scalar_apply, constant_apply, Ideal.ofBits_zero_f32]
  refine congrArg (max · 0) ?_
  conv_lhs => rw [eq_ix2 i]
  exact StackMember.dotGeneral_plain_apply none A B (i 0) (i 1)

/-- Every device's result is the reference's, over the reals. -/
theorem value : Cert.algebraic_KernelIdeal_ReferenceIdeal := fun m ρ m' ρ' _ hin => by
  have hx : xs m = fun d => Layout.block ⟨2, ![2048, 256]⟩ ⟨2, ![2048, 2048]⟩ 1 8 d (m' (((0 : Dev Cert.ReferenceIdeal.nD).tc : Thread Cert.ReferenceIdeal.nD Cert.ReferenceIdeal.τ).loc Cert.ReferenceIdeal.main_arg0)) :=
    funext fun d => (funext (xs_eq m d)).trans (hin d).1
  have hw : ws m = fun d => Layout.block ⟨2, ![256, 2048]⟩ ⟨2, ![2048, 2048]⟩ 0 8 d (m' (((0 : Dev Cert.ReferenceIdeal.nD).tc : Thread Cert.ReferenceIdeal.nD Cert.ReferenceIdeal.τ).loc Cert.ReferenceIdeal.main_arg1)) :=
    funext fun d => (funext (ws_eq m d)).trans (hin d).2
  have e : out m = _ := funext fun i => (out_at (xs m) (ws m) i).trans ((congrArg (max · 0) ((congrArg₂ (fun x w => ∑ d, share x w d (i 0) (i 1)) hx hw).trans
    (shares_product _ _ _ _))).trans (reference_at _ _ i).symm)
  exact ⟨out m, (θ_run Cert.KernelIdeal.defs _ _).mono (fun r h => h.1) (run_whole (F := Ideal) m ρ),
    (θ_run Cert.ReferenceIdeal.defs _ _).mono (fun r h => ⟨(h 0).1.trans e.symm, (h 0).2⟩) (Cert.ReferenceIdeal.Value.run (F := Ideal) m' ρ')⟩

/-- The reference: its run, the result dropped; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All the claims together. -/
theorem claim : Cert.Claim := ⟨Cert.Kernel.Gen.facts, Cert.KernelIdeal.Gen.facts, Cert.ReferenceIdeal.Gen.facts,
  frame_kernel, frame_ideal, frame_reference, trivial, value⟩

end Cert.Proof

end
